-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_setup_ranges [hPre_setup_ranges : Cert.Pre_setup_ranges.Facts] (m : (ℓ : Loc Cert.KernelIdeal.nD Cert.KernelIdeal.τ Cert.KernelIdeal.sig) → Buf (Elt Ideal) ℓ) : Prop :=
  ∀ c : Dev Cert.KernelIdeal.nD,
    (Cert.Pre_setup_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_setup_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_setup_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_setup_ranges [hPre_setup_ranges : Cert.Pre_setup_ranges.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_setup_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_setup_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_setup_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_setup_ranges [hKernelIdeal : Cert.KernelIdeal.Facts] [hPre_setup_ranges : Cert.Pre_setup_ranges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_setup_ranges m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_setup_ranges [hReferenceIdeal : Cert.ReferenceIdeal.Facts] [hPre_setup_ranges : Cert.Pre_setup_ranges.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_setup_ranges m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "taken" .f32 0x7149F2CA#32 ⊤
  ∧ IdealRules.named_const.Statement Cert.KernelIdeal.κ "step" .f32 0x3FAAAAAB#32 ((4 / 3 : ℝ) : EReal)

def algebraic_KernelIdeal_ReferenceIdeal_pre_setup_ranges [hKernelIdeal : Cert.KernelIdeal.Facts] [hReferenceIdeal : Cert.ReferenceIdeal.Facts] [hPre_setup_ranges : Cert.Pre_setup_ranges.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_setup_ranges m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v223) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_setup_ranges : Cert.Pre_setup_ranges.Facts),
    quiescent_Kernel (hKernel := hKernel)
    ∧ quiescent_KernelIdeal (hKernelIdeal := hKernelIdeal)
    ∧ quiescent_KernelIdeal_pre_setup_ranges (hKernelIdeal := hKernelIdeal) (hPre_setup_ranges := hPre_setup_ranges)
    ∧ quiescent_ReferenceIdeal (hReferenceIdeal := hReferenceIdeal)
    ∧ quiescent_ReferenceIdeal_pre_setup_ranges (hReferenceIdeal := hReferenceIdeal) (hPre_setup_ranges := hPre_setup_ranges)
    ∧ preserves_Kernel_KernelIdeal
    ∧ algebraic_KernelIdeal_ReferenceIdeal_pre_setup_ranges (hKernelIdeal := hKernelIdeal) (hReferenceIdeal := hReferenceIdeal) (hPre_setup_ranges := hPre_setup_ranges)
-- ==== Pre_setup_ranges.lean ====
abbrev S2x1024x4x3 : Shape := ⟨4, ![2, 1024, 4, 3]⟩
abbrev S2x1024 : Shape := ⟨2, ![2, 1024]⟩
abbrev S16x66 : Shape := ⟨2, ![16, 66]⟩
abbrev S16 : Shape := ⟨1, ![16]⟩
abbrev S128x416 : Shape := ⟨2, ![128, 416]⟩
abbrev S128 : Shape := ⟨1, ![128]⟩
abbrev S2x1 : Shape := ⟨2, ![2, 1]⟩
abbrev S_ : Shape := ⟨0, ![]⟩

class Facts : Prop where
  slices_S2x1024_S2x1_0_0 : S2x1024.Slices ![0, 0] S2x1
  bcast_S2x1_S2x1024_0_1 : S2x1.BroadcastsInDim S2x1024 (![0, 1] : Fin 2 → Fin S2x1024.rank)
  bcast_S_S2x1024x4x3 : S_.BroadcastsInDim S2x1024x4x3 (![] : Fin 0 → Fin S2x1024x4x3.rank)
  bcast_S_S2x1024 : S_.BroadcastsInDim S2x1024 (![] : Fin 0 → Fin S2x1024.rank)

variable [Facts]

def fn {F : FTy → Type} [FloatOps F] (main_arg0 : FVec F S2x1024x4x3 .f32) (main_arg1 : FVec F S2x1024 .f32) (main_arg2 : IVec S2x1024 32) (main_arg3 : IVec S2x1024 32) (main_arg4 : FVec F S16x66 .f32) (main_arg5 : FVec F S16 .f32) (main_arg6 : FVec F S128x416 .f32) (main_arg7 : FVec F S128 .f32) (main_arg8 : FVec F S128 .f32) : IVec S2x1024x4x3 1 × IVec S2x1024 1 × IVec S2x1024 1 :=
  let main_v0 : IVec S2x1 32 := (extractStridedSlice S2x1 ![0, 0] · slices_S2x1024_S2x1_0_0) main_arg2
  let main_v1 : IVec S2x1024 32 := broadcastInDim S2x1024 ![0, 1] bcast_S2x1_S2x1024_0_1 main_v0
  let main_v2 : FVec F S2x1024x4x3 .f32 := Host.absf main_arg0
  let main_cst : FVec F S_ .f32 := constant S_ .f32 0x7F800000#32
  let main_v3 : FVec F S2x1024x4x3 .f32 := broadcastInDim S2x1024x4x3 ![] bcast_S_S2x1024x4x3 main_cst
  let main_v4 : IVec S2x1024x4x3 1 := cmpf .olt main_v2 main_v3
  let main_cst_0 : FVec F S_ .f32 := constant S_ .f32 0x3F800000#32
  let main_v5 : FVec F S2x1024 .f32 := broadcastInDim S2x1024 ![] bcast_S_S2x1024 main_cst_0
  let main_v6 : IVec S2x1024 1 := cmpf .oeq main_arg1 main_v5
  let main_v7 : IVec S2x1024 32 := iotaInDim S2x1024 32 1
  let main_v8 : IVec S2x1024 32 := addi main_v1 main_v7
  let main_v9 : IVec S2x1024 1 := cmpi .eq main_arg2 main_v8
  (main_v4, main_v6, main_v9)
-- ==== Kernel.lean ====
abbrev S2x1024x4x3 : Shape := ⟨4, ![2, 1024, 4, 3]⟩
abbrev S2x1024 : Shape := ⟨2, ![2, 1024]⟩
abbrev S16x66 : Shape := ⟨2, ![16, 66]⟩
abbrev S16 : Shape := ⟨1, ![16]⟩
abbrev S128x416 : Shape := ⟨2, ![128, 416]⟩
abbrev S128 : Shape := ⟨1, ![128]⟩
abbrev S16x75 : Shape := ⟨2, ![16, 75]⟩
abbrev S75x25 : Shape := ⟨2, ![75, 25]⟩
abbrev S25x400 : Shape := ⟨2, ![25, 400]⟩
abbrev S2x4x3x1024 : Shape := ⟨4, ![2, 4, 3, 1024]⟩
abbrev S2x12x1024 : Shape := ⟨3, ![2, 12, 1024]⟩
abbrev S2x1x1024 : Shape := ⟨3, ![2, 1, 1024]⟩
abbrev S_ : Shape := ⟨0, ![]⟩
abbrev S2x3x1024 : Shape := ⟨3, ![2, 3, 1024]⟩
abbrev S2x16x1024 : Shape := ⟨3, ![2, 16, 1024]⟩
abbrev S2x16x8x128 : Shape := ⟨4, ![2, 16, 8, 128]⟩
abbrev S2x8x128x16 : Shape := ⟨4, ![2, 8, 128, 16]⟩
abbrev S66x16 : Shape := ⟨2, ![66, 16]⟩
abbrev S1x16 : Shape := ⟨2, ![1, 16]⟩
abbrev S1x128 : Shape := ⟨2, ![1, 128]⟩
abbrev S2x1024x30x128 : Shape := ⟨4, ![2, 1024, 30, 128]⟩
abbrev S2x1024x30 : Shape := ⟨3, ![2, 1024, 30]⟩
abbrev S1x16x1024 : Shape := ⟨3, ![1, 16, 1024]⟩
abbrev S1x1x128x16 : Shape := ⟨4, ![1, 1, 128, 16]⟩
abbrev S1x128x30x128 : Shape := ⟨4, ![1, 128, 30, 128]⟩
abbrev S1x128x30 : Shape := ⟨3, ![1, 128, 30]⟩
abbrev S16x1024 : Shape := ⟨2, ![16, 1024]⟩
abbrev S3x1024 : Shape := ⟨2, ![3, 1024]⟩
abbrev S1x1024 : Shape := ⟨2, ![1, 1024]⟩
abbrev S128x16 : Shape := ⟨2, ![128, 16]⟩
abbrev S128x3 : Shape := ⟨2, ![128, 3]⟩
abbrev S128x1 : Shape := ⟨2, ![128, 1]⟩
abbrev S128x1024 : Shape := ⟨2, ![128, 1024]⟩
abbrev S128x30 : Shape := ⟨2, ![128, 30]⟩
abbrev S3840x16 : Shape := ⟨2, ![3840, 16]⟩
abbrev S3840x1 : Shape := ⟨2, ![3840, 1]⟩
abbrev S128x75 : Shape := ⟨2, ![128, 75]⟩
abbrev S3840x75 : Shape := ⟨2, ![3840, 75]⟩
abbrev S3840x25 : Shape := ⟨2, ![3840, 25]⟩
abbrev S3840x400 : Shape := ⟨2, ![3840, 400]⟩
abbrev S1x400 : Shape := ⟨2, ![1, 400]⟩
abbrev S3840x66 : Shape := ⟨2, ![3840, 66]⟩
abbrev S128x400 : Shape := ⟨2, ![128, 400]⟩
abbrev S3840x128 : Shape := ⟨2, ![3840, 128]⟩
abbrev S3840 : Shape := ⟨1, ![3840]⟩
abbrev S128x128 : Shape := ⟨2, ![128, 128]⟩
abbrev S1x128x1x128 : Shape := ⟨4, ![1, 128, 1, 128]⟩

abbrev nBuf : Space → Nat
  | .hbm => 28
  | .vmem => 17
  | .smem => 0
  | _ => 0

abbrev bufTy : (tb : Table) → Fin (tcTables nBuf tb) → BufTy
  | .hbm, ⟨0, _⟩ => ⟨S2x1024x4x3, .f32⟩
  | .hbm, ⟨1, _⟩ => ⟨S2x1024, .f32⟩
  | .hbm, ⟨2, _⟩ => ⟨S2x1024, .i32⟩
  | .hbm, ⟨3, _⟩ => ⟨S2x1024, .i32⟩
  | .hbm, ⟨4, _⟩ => ⟨S16x66, .f32⟩
  | .hbm, ⟨5, _⟩ => ⟨S16, .f32⟩
  | .hbm, ⟨6, _⟩ => ⟨S128x416, .f32⟩
  | .hbm, ⟨7, _⟩ => ⟨S128, .f32⟩
  | .hbm, ⟨8, _⟩ => ⟨S128, .f32⟩
  | .hbm, ⟨9, _⟩ => ⟨S16x75, .f32⟩
  | .hbm, ⟨10, _⟩ => ⟨S16x75, .f32⟩
  | .hbm, ⟨11, _⟩ => ⟨S75x25, .f32⟩
  | .hbm, ⟨12, _⟩ => ⟨S25x400, .f32⟩
  | .hbm, ⟨13, _⟩ => ⟨S2x4x3x1024, .f32⟩
  | .hbm, ⟨14, _⟩ => ⟨S2x12x1024, .f32⟩
  | .hbm, ⟨15, _⟩ => ⟨S2x1024, .f32⟩
  | .hbm, ⟨16, _⟩ => ⟨S2x1x1024, .f32⟩
  | .hbm, ⟨17, _⟩ => ⟨S_, .f32⟩
  | .hbm, ⟨18, _⟩ => ⟨S2x3x1024, .f32⟩
  | .hbm, ⟨19, _⟩ => ⟨S2x16x1024, .f32⟩
  | .hbm, ⟨20, _⟩ => ⟨S2x16x8x128, .f32⟩
  | .hbm, ⟨21, _⟩ => ⟨S2x8x128x16, .f32⟩
  | .hbm, ⟨22, _⟩ => ⟨S66x16, .f32⟩
  | .hbm, ⟨23, _⟩ => ⟨S1x16, .f32⟩
  | .hbm, ⟨24, _⟩ => ⟨S1x128, .f32⟩
  | .hbm, ⟨25, _⟩ => ⟨S1x128, .f32⟩
  | .hbm, ⟨26, _⟩ => ⟨S2x1024x30x128, .f32⟩
  | .hbm, ⟨27, _⟩ => ⟨S2x1024x30, .i32⟩
  | .local _ .vmem, ⟨0, _⟩ => ⟨S1x16x1024, .f32⟩
  | .local _ .vmem, ⟨1, _⟩ => ⟨S1x16x1024, .f32⟩
  | .local _ .vmem, ⟨2, _⟩ => ⟨S1x1x128x16, .f32⟩
  | .local _ .vmem, ⟨3, _⟩ => ⟨S1x1x128x16, .f32⟩
  | .local _ .vmem, ⟨4, _⟩ => ⟨S16x75, .f32⟩
  | .local _ .vmem, ⟨5, _⟩ => ⟨S16x75, .f32⟩
  | .local _ .vmem, ⟨6, _⟩ => ⟨S75x25, .f32⟩
  | .local _ .vmem, ⟨7, _⟩ => ⟨S25x400, .f32⟩
  | .local _ .vmem, ⟨8, _⟩ => ⟨S66x16, .f32⟩
  | .local _ .vmem, ⟨9, _⟩ => ⟨S1x16, .f32⟩
  | .local _ .vmem, ⟨10, _⟩ => ⟨S128x416, .f32⟩
  | .local _ .vmem, ⟨11, _⟩ => ⟨S1x128, .f32⟩
  | .local _ .vmem, ⟨12, _⟩ => ⟨S1x128, .f32⟩
  | .local _ .vmem, ⟨13, _⟩ => ⟨S1x128x30x128, .f32⟩
  | .local _ .vmem, ⟨14, _⟩ => ⟨S1x128x30x128, .f32⟩
  | .local _ .vmem, ⟨15, _⟩ => ⟨S1x128x30, .i32⟩
  | .local _ .vmem, ⟨16, _⟩ => ⟨S1x128x30, .i32⟩
  | _, _ => ⟨S2x1024x4x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_cst_1 : Ref sig .tc := ⟨.hbm, 11, rfl⟩
abbrev main_cst_2 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12_0 : Ref sig .tc := ⟨.hbm, 26, rfl⟩
abbrev main_v12_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x128x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S16x75 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x75 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S75x25 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S25x400 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S66x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x416 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x128x30x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x30 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "step" => some ((4 / 3 : ℝ) : EReal)
  | "taken" => some ⊤
  | _ => none
-- ==== ReferenceIdeal.lean ====
abbrev S2x1024x4x3 : Shape := ⟨4, ![2, 1024, 4, 3]⟩
abbrev S2x1024 : Shape := ⟨2, ![2, 1024]⟩
abbrev S16x66 : Shape := ⟨2, ![16, 66]⟩
abbrev S16 : Shape := ⟨1, ![16]⟩
abbrev S128x416 : Shape := ⟨2, ![128, 416]⟩
abbrev S128 : Shape := ⟨1, ![128]⟩
abbrev S2x1024x1x3 : Shape := ⟨4, ![2, 1024, 1, 3]⟩
abbrev S2x1024x3 : Shape := ⟨3, ![2, 1024, 3]⟩
abbrev S2x1024x1 : Shape := ⟨3, ![2, 1024, 1]⟩
abbrev S_ : Shape := ⟨0, ![]⟩
abbrev S2x1x1024 : Shape := ⟨3, ![2, 1, 1024]⟩
abbrev S2x1024x1024 : Shape := ⟨3, ![2, 1024, 1024]⟩
abbrev S2x1x1024x3 : Shape := ⟨4, ![2, 1, 1024, 3]⟩
abbrev S2x1024x1024x3 : Shape := ⟨4, ![2, 1024, 1024, 3]⟩
abbrev S2x1024x30 : Shape := ⟨3, ![2, 1024, 30]⟩
abbrev S2x1024x16x3 : Shape := ⟨4, ![2, 1024, 16, 3]⟩
abbrev S2x1024x8x3 : Shape := ⟨4, ![2, 1024, 8, 3]⟩
abbrev S2x1024x24x3 : Shape := ⟨4, ![2, 1024, 24, 3]⟩
abbrev S2x1024x1x24x3 : Shape := ⟨5, ![2, 1024, 1, 24, 3]⟩
abbrev S2x1x1024x24x3 : Shape := ⟨5, ![2, 1, 1024, 24, 3]⟩
abbrev S2x1024x1024x24x3 : Shape := ⟨5, ![2, 1024, 1024, 24, 3]⟩
abbrev S2x1024x1024x24 : Shape := ⟨4, ![2, 1024, 1024, 24]⟩
abbrev S2x1024x30x1 : Shape := ⟨4, ![2, 1024, 30, 1]⟩
abbrev S2x1024x30x24 : Shape := ⟨4, ![2, 1024, 30, 24]⟩
abbrev S15 : Shape := ⟨1, ![15]⟩
abbrev S1 : Shape := ⟨1, ![1]⟩
abbrev S2x1024x30x24x1 : Shape := ⟨5, ![2, 1024, 30, 24, 1]⟩
abbrev S1x1x1x1x16 : Shape := ⟨5, ![1, 1, 1, 1, 16]⟩
abbrev S2x1024x30x24x16 : Shape := ⟨5, ![2, 1024, 30, 24, 16]⟩
abbrev S2x1024x30x384 : Shape := ⟨4, ![2, 1024, 30, 384]⟩
abbrev S1x1x1x16 : Shape := ⟨4, ![1, 1, 1, 16]⟩
abbrev S2x1024x30x16 : Shape := ⟨4, ![2, 1024, 30, 16]⟩
abbrev S2x1024x30x400 : Shape := ⟨4, ![2, 1024, 30, 400]⟩
abbrev S1x1x1x66 : Shape := ⟨4, ![1, 1, 1, 66]⟩
abbrev S2x1024x30x66 : Shape := ⟨4, ![2, 1024, 30, 66]⟩
abbrev S66x16 : Shape := ⟨2, ![66, 16]⟩
abbrev S2x1024x30x416 : Shape := ⟨4, ![2, 1024, 30, 416]⟩
abbrev S416x128 : Shape := ⟨2, ![416, 128]⟩
abbrev S2x1024x30x128 : Shape := ⟨4, ![2, 1024, 30, 128]⟩
abbrev S1x1x1x128 : Shape := ⟨4, ![1, 1, 1, 128]⟩

abbrev nBuf : Space → Nat
  | .hbm => 333
  | .vmem => 0
  | .smem => 0
  | _ => 0

abbrev hbmTy0_0 (i : Nat) : BufTy := match i % 128 with
  | 0 => ⟨S2x1024x4x3, .f32⟩
  | 1 => ⟨S2x1024, .f32⟩
  | 2 => ⟨S2x1024, .i32⟩
  | 3 => ⟨S2x1024, .i32⟩
  | 4 => ⟨S16x66, .f32⟩
  | 5 => ⟨S16, .f32⟩
  | 6 => ⟨S128x416, .f32⟩
  | 7 => ⟨S128, .f32⟩
  | 8 => ⟨S128, .f32⟩
  | 9 => ⟨S2x1024x1x3, .f32⟩
  | 10 => ⟨S2x1024x3, .f32⟩
  | 11 => ⟨S2x1024x1x3, .f32⟩
  | 12 => ⟨S2x1024x3, .f32⟩
  | 13 => ⟨S2x1024x3, .f32⟩
  | 14 => ⟨S2x1024x1x3, .f32⟩
  | 15 => ⟨S2x1024x3, .f32⟩
  | 16 => ⟨S2x1024x1x3, .f32⟩
  | 17 => ⟨S2x1024x3, .f32⟩
  | 18 => ⟨S2x1024x3, .f32⟩
  | 19 => ⟨S2x1024x1, .f32⟩
  | 20 => ⟨S2x1024, .f32⟩
  | 21 => ⟨S2x1024x1, .f32⟩
  | 22 => ⟨S2x1024, .f32⟩
  | 23 => ⟨S2x1024x1, .f32⟩
  | 24 => ⟨S2x1024, .f32⟩
  | 25 => ⟨S2x1024x1, .f32⟩
  | 26 => ⟨S2x1024, .f32⟩
  | 27 => ⟨S2x1024x1, .f32⟩
  | 28 => ⟨S2x1024, .f32⟩
  | 29 => ⟨S2x1024x1, .f32⟩
  | 30 => ⟨S2x1024, .f32⟩
  | 31 => ⟨S2x1024, .f32⟩
  | 32 => ⟨S2x1024, .f32⟩
  | 33 => ⟨S2x1024, .f32⟩
  | 34 => ⟨S2x1024, .f32⟩
  | 35 => ⟨S2x1024, .f32⟩
  | 36 => ⟨S2x1024, .f32⟩
  | 37 => ⟨S2x1024, .f32⟩
  | 38 => ⟨S2x1024, .f32⟩
  | 39 => ⟨S2x1024, .f32⟩
  | 40 => ⟨S2x1024x1, .f32⟩
  | 41 => ⟨S2x1024x1, .f32⟩
  | 42 => ⟨S2x1024x1, .f32⟩
  | 43 => ⟨S2x1024x3, .f32⟩
  | 44 => ⟨S_, .f32⟩
  | 45 => ⟨S2x1024x3, .f32⟩
  | 46 => ⟨S2x1024x3, .f32⟩
  | 47 => ⟨S_, .f32⟩
  | 48 => ⟨S2x1024x3, .f32⟩
  | 49 => ⟨S2x1024x3, .f32⟩
  | 50 => ⟨S2x1024x3, .f32⟩
  | 51 => ⟨S_, .f32⟩
  | 52 => ⟨S2x1024x3, .f32⟩
  | 53 => ⟨S2x1024x3, .f32⟩
  | 54 => ⟨S2x1024x3, .f32⟩
  | 55 => ⟨S2x1024x1x3, .f32⟩
  | 56 => ⟨S2x1024x3, .f32⟩
  | 57 => ⟨S2x1024x3, .f32⟩
  | 58 => ⟨S2x1024x1x3, .f32⟩
  | 59 => ⟨S2x1024x3, .f32⟩
  | 60 => ⟨S2x1024x1x3, .f32⟩
  | 61 => ⟨S2x1024x3, .f32⟩
  | 62 => ⟨S2x1024x1x3, .f32⟩
  | 63 => ⟨S2x1024x3, .f32⟩
  | 64 => ⟨S2x1024x1x3, .f32⟩
  | 65 => ⟨S2x1024x3, .f32⟩
  | 66 => ⟨S2x1x1024, .f32⟩
  | 67 => ⟨S2x1024x1, .f32⟩
  | 68 => ⟨S2x1024x1024, .f32⟩
  | 69 => ⟨S2x1024x1024, .f32⟩
  | 70 => ⟨S2x1024x1024, .f32⟩
  | 71 => ⟨S2x1x1024x3, .f32⟩
  | 72 => ⟨S2x1024x1x3, .f32⟩
  | 73 => ⟨S2x1024x1024x3, .f32⟩
  | 74 => ⟨S2x1024x1024x3, .f32⟩
  | 75 => ⟨S2x1024x1024x3, .f32⟩
  | 76 => ⟨S2x1024x1024x3, .f32⟩
  | 77 => ⟨S_, .f32⟩
  | 78 => ⟨S2x1024x1024, .f32⟩
  | 79 => ⟨S_, .f32⟩
  | 80 => ⟨S2x1024x1024, .f32⟩
  | 81 => ⟨S2x1024x1024, .f32⟩
  | 82 => ⟨S2x1024x1024, .f32⟩
  | 83 => ⟨S2x1024x1024, .f32⟩
  | 84 => ⟨S_, .f32⟩
  | 85 => ⟨S2x1024, .f32⟩
  | 86 => ⟨S2x1024x1, .f32⟩
  | 87 => ⟨S_, .f32⟩
  | 88 => ⟨S2x1024x1024, .f32⟩
  | 89 => ⟨S2x1024x1024, .f32⟩
  | 90 => ⟨S2x1024x1024, .f32⟩
  | 91 => ⟨S2x1024x1024, .f32⟩
  | 92 => ⟨S2x1024x1024, .f32⟩
  | 93 => ⟨S2x1024x1024, .f32⟩
  | 94 => ⟨S2x1024x30, .f32⟩
  | 95 => ⟨S2x1024x30, .i32⟩
  | 96 => ⟨S2x1024x30, .f32⟩
  | 97 => ⟨S2x1024x1x3, .f32⟩
  | 98 => ⟨S2x1024x1x3, .f32⟩
  | 99 => ⟨S2x1024x1x3, .f32⟩
  | 100 => ⟨S2x1024x1x3, .f32⟩
  | 101 => ⟨S2x1024x1x3, .f32⟩
  | 102 => ⟨S2x1024x1x3, .f32⟩
  | 103 => ⟨S2x1024x1x3, .f32⟩
  | 104 => ⟨S2x1024x1x3, .f32⟩
  | 105 => ⟨S2x1024x1x3, .f32⟩
  | 106 => ⟨S2x1024x1x3, .f32⟩
  | 107 => ⟨S2x1024x1x3, .f32⟩
  | 108 => ⟨S2x1024x1x3, .f32⟩
  | 109 => ⟨S2x1024x1x3, .f32⟩
  | 110 => ⟨S2x1024x1x3, .f32⟩
  | 111 => ⟨S2x1024x1x3, .f32⟩
  | 112 => ⟨S2x1024x1x3, .f32⟩
  | 113 => ⟨S2x1024x1x3, .f32⟩
  | 114 => ⟨S2x1024x1x3, .f32⟩
  | 115 => ⟨S2x1024x1x3, .f32⟩
  | 116 => ⟨S2x1024x1x3, .f32⟩
  | 117 => ⟨S2x1024x1x3, .f32⟩
  | 118 => ⟨S2x1024x1x3, .f32⟩
  | 119 => ⟨S2x1024x1x3, .f32⟩
  | 120 => ⟨S2x1024x1x3, .f32⟩
  | 121 => ⟨S2x1024x16x3, .f32⟩
  | 122 => ⟨S2x1024x8x3, .f32⟩
  | 123 => ⟨S2x1024x24x3, .f32⟩
  | 124 => ⟨S2x1024x1x3, .f32⟩
  | 125 => ⟨S2x1024x1x3, .f32⟩
  | 126 => ⟨S2x1024x1x3, .f32⟩
  | 127 => ⟨S2x1024x1x3, .f32⟩
  | _ => ⟨S2x1024x4x3, .f32⟩

abbrev hbmTy0_1 (i : Nat) : BufTy := match i % 128 with
  | 0 => ⟨S2x1024x1x3, .f32⟩
  | 1 => ⟨S2x1024x1x3, .f32⟩
  | 2 => ⟨S2x1024x1x3, .f32⟩
  | 3 => ⟨S2x1024x1x3, .f32⟩
  | 4 => ⟨S2x1024x1x3, .f32⟩
  | 5 => ⟨S2x1024x1x3, .f32⟩
  | 6 => ⟨S2x1024x1x3, .f32⟩
  | 7 => ⟨S2x1024x1x3, .f32⟩
  | 8 => ⟨S2x1024x1x3, .f32⟩
  | 9 => ⟨S2x1024x1x3, .f32⟩
  | 10 => ⟨S2x1024x1x3, .f32⟩
  | 11 => ⟨S2x1024x1x3, .f32⟩
  | 12 => ⟨S2x1024x1x3, .f32⟩
  | 13 => ⟨S2x1024x1x3, .f32⟩
  | 14 => ⟨S2x1024x1x3, .f32⟩
  | 15 => ⟨S2x1024x1x3, .f32⟩
  | 16 => ⟨S2x1024x1x3, .f32⟩
  | 17 => ⟨S2x1024x1x3, .f32⟩
  | 18 => ⟨S2x1024x1x3, .f32⟩
  | 19 => ⟨S2x1024x1x3, .f32⟩
  | 20 => ⟨S2x1024x16x3, .f32⟩
  | 21 => ⟨S2x1024x8x3, .f32⟩
  | 22 => ⟨S2x1024x24x3, .f32⟩
  | 23 => ⟨S2x1024x1x24x3, .f32⟩
  | 24 => ⟨S2x1x1024x24x3, .f32⟩
  | 25 => ⟨S2x1024x1024x24x3, .f32⟩
  | 26 => ⟨S2x1024x1024x24x3, .f32⟩
  | 27 => ⟨S2x1024x1024x24x3, .f32⟩
  | 28 => ⟨S2x1024x1024x24x3, .f32⟩
  | 29 => ⟨S_, .f32⟩
  | 30 => ⟨S2x1024x1024x24, .f32⟩
  | 31 => ⟨S_, .f32⟩
  | 32 => ⟨S2x1024x1024x24, .f32⟩
  | 33 => ⟨S2x1024x1024x24, .f32⟩
  | 34 => ⟨S2x1024x1024x24, .f32⟩
  | 35 => ⟨S2x1024x30x1, .i32⟩
  | 36 => ⟨S_, .i32⟩
  | 37 => ⟨S2x1024x30x1, .i32⟩
  | 38 => ⟨S2x1024x30x1, .i1⟩
  | 39 => ⟨S_, .i32⟩
  | 40 => ⟨S2x1024x30x1, .i32⟩
  | 41 => ⟨S2x1024x30x1, .i32⟩
  | 42 => ⟨S2x1024x30x1, .i32⟩
  | 43 => ⟨S2x1024x30x24, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S15, .f32⟩
  | 52 => ⟨S_, .f32⟩
  | 53 => ⟨S15, .f32⟩
  | 54 => ⟨S15, .f32⟩
  | 55 => ⟨S1, .f32⟩
  | 56 => ⟨S_, .f32⟩
  | 57 => ⟨S15, .f32⟩
  | 58 => ⟨S15, .f32⟩
  | 59 => ⟨S15, .f32⟩
  | 60 => ⟨S15, .f32⟩
  | 61 => ⟨S1, .f32⟩
  | 62 => ⟨S15, .f32⟩
  | 63 => ⟨S15, .f32⟩
  | 64 => ⟨S15, .f32⟩
  | 65 => ⟨S1, .f32⟩
  | 66 => ⟨S16, .f32⟩
  | 67 => ⟨S2x1024x30x24x1, .f32⟩
  | 68 => ⟨S1x1x1x1x16, .f32⟩
  | 69 => ⟨S2x1024x30x24x16, .f32⟩
  | 70 => ⟨S2x1024x30x24x16, .f32⟩
  | 71 => ⟨S2x1024x30x24x16, .f32⟩
  | 72 => ⟨S_, .f32⟩
  | 73 => ⟨S2x1024x30x24x16, .f32⟩
  | 74 => ⟨S2x1024x30x24x16, .f32⟩
  | 75 => ⟨S2x1024x30x24x16, .f32⟩
  | 76 => ⟨S2x1024x30x24x16, .f32⟩
  | 77 => ⟨S2x1024x30x24x16, .f32⟩
  | 78 => ⟨S2x1024x30x384, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S15, .f32⟩
  | 87 => ⟨S_, .f32⟩
  | 88 => ⟨S15, .f32⟩
  | 89 => ⟨S15, .f32⟩
  | 90 => ⟨S1, .f32⟩
  | 91 => ⟨S_, .f32⟩
  | 92 => ⟨S15, .f32⟩
  | 93 => ⟨S15, .f32⟩
  | 94 => ⟨S15, .f32⟩
  | 95 => ⟨S15, .f32⟩
  | 96 => ⟨S1, .f32⟩
  | 97 => ⟨S15, .f32⟩
  | 98 => ⟨S15, .f32⟩
  | 99 => ⟨S15, .f32⟩
  | 100 => ⟨S1, .f32⟩
  | 101 => ⟨S16, .f32⟩
  | 102 => ⟨S2x1024x30x1, .f32⟩
  | 103 => ⟨S1x1x1x16, .f32⟩
  | 104 => ⟨S2x1024x30x16, .f32⟩
  | 105 => ⟨S2x1024x30x16, .f32⟩
  | 106 => ⟨S2x1024x30x16, .f32⟩
  | 107 => ⟨S_, .f32⟩
  | 108 => ⟨S2x1024x30x16, .f32⟩
  | 109 => ⟨S2x1024x30x16, .f32⟩
  | 110 => ⟨S2x1024x30x16, .f32⟩
  | 111 => ⟨S2x1024x30x16, .f32⟩
  | 112 => ⟨S2x1024x30x16, .f32⟩
  | 113 => ⟨S2x1024x30x400, .f32⟩
  | 114 => ⟨S2x1024x1, .i32⟩
  | 115 => ⟨S2x1x1024, .i32⟩
  | 116 => ⟨S2x1024x1024, .i32⟩
  | 117 => ⟨S2x1024x1024, .i32⟩
  | 118 => ⟨S2x1024x1024, .i32⟩
  | 119 => ⟨S_, .i32⟩
  | 120 => ⟨S2x1024x30, .i32⟩
  | 121 => ⟨S2x1024x30, .i1⟩
  | 122 => ⟨S_, .i32⟩
  | 123 => ⟨S2x1024x30, .i32⟩
  | 124 => ⟨S2x1024x30, .i32⟩
  | 125 => ⟨S2x1024x30, .i32⟩
  | 126 => ⟨S2x1024x30x1, .i32⟩
  | 127 => ⟨S2x1024x30, .i32⟩
  | _ => ⟨S2x1024x4x3, .f32⟩

abbrev hbmTy0_2 (i : Nat) : BufTy := match i % 128 with
  | 0 => ⟨S2x1024x1, .i32⟩
  | 1 => ⟨S2x1x1024, .i32⟩
  | 2 => ⟨S2x1024x1024, .i32⟩
  | 3 => ⟨S2x1024x1024, .i32⟩
  | 4 => ⟨S2x1024x1024, .i1⟩
  | 5 => ⟨S2x1024x1024, .i32⟩
  | 6 => ⟨S_, .i32⟩
  | 7 => ⟨S2x1024x30, .i32⟩
  | 8 => ⟨S2x1024x30, .i1⟩
  | 9 => ⟨S_, .i32⟩
  | 10 => ⟨S2x1024x30, .i32⟩
  | 11 => ⟨S2x1024x30, .i32⟩
  | 12 => ⟨S2x1024x30, .i32⟩
  | 13 => ⟨S2x1024x30x1, .i32⟩
  | 14 => ⟨S2x1024x30, .i32⟩
  | 15 => ⟨S_, .i32⟩
  | 16 => ⟨S2x1024x30, .i32⟩
  | 17 => ⟨S2x1024x30, .i32⟩
  | 18 => ⟨S_, .i32⟩
  | 19 => ⟨S_, .i32⟩
  | 20 => ⟨S_, .i32⟩
  | 21 => ⟨S2x1024x30, .i32⟩
  | 22 => ⟨S2x1024x30, .i32⟩
  | 23 => ⟨S_, .i32⟩
  | 24 => ⟨S2x1024x30, .i32⟩
  | 25 => ⟨S2x1024x30, .i32⟩
  | 26 => ⟨S2x1024x30, .i32⟩
  | 27 => ⟨S_, .i32⟩
  | 28 => ⟨S2x1024x30, .i32⟩
  | 29 => ⟨S2x1024x30, .i32⟩
  | 30 => ⟨S_, .i32⟩
  | 31 => ⟨S2x1024x30, .i32⟩
  | 32 => ⟨S2x1024x30, .i32⟩
  | 33 => ⟨S2x1024x30, .i32⟩
  | 34 => ⟨S2x1024x30x1, .i32⟩
  | 35 => ⟨S1x1x1x66, .i32⟩
  | 36 => ⟨S2x1024x30x66, .i32⟩
  | 37 => ⟨S2x1024x30x66, .i32⟩
  | 38 => ⟨S2x1024x30x66, .i1⟩
  | 39 => ⟨S2x1024x30x66, .f32⟩
  | 40 => ⟨S66x16, .f32⟩
  | 41 => ⟨S2x1024x30x16, .f32⟩
  | 42 => ⟨S1x1x1x16, .f32⟩
  | 43 => ⟨S2x1024x30x16, .f32⟩
  | 44 => ⟨S2x1024x30x16, .f32⟩
  | 45 => ⟨S2x1024x30x416, .f32⟩
  | 46 => ⟨S416x128, .f32⟩
  | 47 => ⟨S2x1024x30x128, .f32⟩
  | 48 => ⟨S_, .f32⟩
  | 49 => ⟨S2x1024x30, .f32⟩
  | 50 => ⟨S2x1024x30x1, .f32⟩
  | 51 => ⟨S_, .f32⟩
  | 52 => ⟨S2x1024x30x1, .f32⟩
  | 53 => ⟨S2x1024x30x1, .f32⟩
  | 54 => ⟨S2x1024x30x128, .f32⟩
  | 55 => ⟨S2x1024x30x128, .f32⟩
  | 56 => ⟨S2x1024x30x128, .f32⟩
  | 57 => ⟨S_, .f32⟩
  | 58 => ⟨S2x1024x30, .f32⟩
  | 59 => ⟨S2x1024x30x1, .f32⟩
  | 60 => ⟨S_, .f32⟩
  | 61 => ⟨S2x1024x30x1, .f32⟩
  | 62 => ⟨S2x1024x30x1, .f32⟩
  | 63 => ⟨S2x1024x30x128, .f32⟩
  | 64 => ⟨S2x1024x30x128, .f32⟩
  | 65 => ⟨S_, .f32⟩
  | 66 => ⟨S2x1024x30x1, .f32⟩
  | 67 => ⟨S2x1024x30x1, .f32⟩
  | 68 => ⟨S2x1024x30x1, .f32⟩
  | 69 => ⟨S2x1024x30x128, .f32⟩
  | 70 => ⟨S2x1024x30x128, .f32⟩
  | 71 => ⟨S1x1x1x128, .f32⟩
  | 72 => ⟨S2x1024x30x128, .f32⟩
  | 73 => ⟨S2x1024x30x128, .f32⟩
  | 74 => ⟨S1x1x1x128, .f32⟩
  | 75 => ⟨S2x1024x30x128, .f32⟩
  | 76 => ⟨S2x1024x30x128, .f32⟩
  | _ => ⟨S2x1024x4x3, .f32⟩

abbrev hbmTy (i : Nat) : BufTy := match i / 128 with
  | 0 => hbmTy0_0 i
  | 1 => hbmTy0_1 i
  | 2 => hbmTy0_2 i
  | _ => ⟨S2x1024x4x3, .f32⟩

abbrev bufTy : (tb : Table) → Fin (tcTables nBuf tb) → BufTy
  | .hbm, ⟨i, _⟩ => hbmTy i
  | _, _ => ⟨S2x1024x4x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst : Ref sig .tc := ⟨.hbm, 44, rfl⟩
abbrev main_v35 : Ref sig .tc := ⟨.hbm, 45, rfl⟩
abbrev main_v36 : Ref sig .tc := ⟨.hbm, 46, rfl⟩
abbrev main_cst_0 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_1 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_cst_2 : Ref sig .tc := ⟨.hbm, 77, rfl⟩
abbrev main_v65 : Ref sig .tc := ⟨.hbm, 78, rfl⟩
abbrev main_cst_3 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_cst_4 : Ref sig .tc := ⟨.hbm, 84, rfl⟩
abbrev main_v70 : Ref sig .tc := ⟨.hbm, 85, rfl⟩
abbrev main_v71 : Ref sig .tc := ⟨.hbm, 86, rfl⟩
abbrev main_cst_5 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_values : Ref sig .tc := ⟨.hbm, 94, rfl⟩
abbrev main_indices : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_cst_6 : Ref sig .tc := ⟨.hbm, 157, rfl⟩
abbrev main_v139 : Ref sig .tc := ⟨.hbm, 158, rfl⟩
abbrev main_cst_7 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_call0_c : Ref sig .tc := ⟨.hbm, 164, rfl⟩
abbrev main_call0_v0 : Ref sig .tc := ⟨.hbm, 165, rfl⟩
abbrev main_call0_v1 : Ref sig .tc := ⟨.hbm, 166, rfl⟩
abbrev main_call0_c_0 : Ref sig .tc := ⟨.hbm, 167, rfl⟩
abbrev main_call0_v2 : Ref sig .tc := ⟨.hbm, 168, rfl⟩
abbrev main_call0_v3 : Ref sig .tc := ⟨.hbm, 169, rfl⟩
abbrev main_call0_v4 : Ref sig .tc := ⟨.hbm, 170, rfl⟩
abbrev main_v144 : Ref sig .tc := ⟨.hbm, 171, rfl⟩
abbrev main_cst_8 : Ref sig .tc := ⟨.hbm, 172, rfl⟩
abbrev main_cst_9 : Ref sig .tc := ⟨.hbm, 173, rfl⟩
abbrev main_call1_v0 : Ref sig .tc := ⟨.hbm, 174, rfl⟩
abbrev main_call1_v1 : Ref sig .tc := ⟨.hbm, 175, rfl⟩
abbrev main_call1_v2 : Ref sig .tc := ⟨.hbm, 176, rfl⟩
abbrev main_call1_cst : Ref sig .tc := ⟨.hbm, 177, rfl⟩
abbrev main_call1_v3 : Ref sig .tc := ⟨.hbm, 178, rfl⟩
abbrev main_call1_v4 : Ref sig .tc := ⟨.hbm, 179, rfl⟩
abbrev main_call1_cst_0 : Ref sig .tc := ⟨.hbm, 180, rfl⟩
abbrev main_call1_v5 : Ref sig .tc := ⟨.hbm, 181, rfl⟩
abbrev main_call1_v6 : Ref sig .tc := ⟨.hbm, 182, rfl⟩
abbrev main_call1_v7 : Ref sig .tc := ⟨.hbm, 183, rfl⟩
abbrev main_call1_cst_1 : Ref sig .tc := ⟨.hbm, 184, rfl⟩
abbrev main_call1_v8 : Ref sig .tc := ⟨.hbm, 185, rfl⟩
abbrev main_call1_v9 : Ref sig .tc := ⟨.hbm, 186, rfl⟩
abbrev main_call1_v10 : Ref sig .tc := ⟨.hbm, 187, rfl⟩
abbrev main_call1_v11 : Ref sig .tc := ⟨.hbm, 188, rfl⟩
abbrev main_call1_v12 : Ref sig .tc := ⟨.hbm, 189, rfl⟩
abbrev main_call1_v13 : Ref sig .tc := ⟨.hbm, 190, rfl⟩
abbrev main_call1_v14 : Ref sig .tc := ⟨.hbm, 191, rfl⟩
abbrev main_call1_v15 : Ref sig .tc := ⟨.hbm, 192, rfl⟩
abbrev main_call1_v16 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_cst_10 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_cst_11 : Ref sig .tc := ⟨.hbm, 207, rfl⟩
abbrev main_cst_12 : Ref sig .tc := ⟨.hbm, 208, rfl⟩
abbrev main_call2_v0 : Ref sig .tc := ⟨.hbm, 209, rfl⟩
abbrev main_call2_v1 : Ref sig .tc := ⟨.hbm, 210, rfl⟩
abbrev main_call2_v2 : Ref sig .tc := ⟨.hbm, 211, rfl⟩
abbrev main_call2_cst : Ref sig .tc := ⟨.hbm, 212, rfl⟩
abbrev main_call2_v3 : Ref sig .tc := ⟨.hbm, 213, rfl⟩
abbrev main_call2_v4 : Ref sig .tc := ⟨.hbm, 214, rfl⟩
abbrev main_call2_cst_0 : Ref sig .tc := ⟨.hbm, 215, rfl⟩
abbrev main_call2_v5 : Ref sig .tc := ⟨.hbm, 216, rfl⟩
abbrev main_call2_v6 : Ref sig .tc := ⟨.hbm, 217, rfl⟩
abbrev main_call2_v7 : Ref sig .tc := ⟨.hbm, 218, rfl⟩
abbrev main_call2_cst_1 : Ref sig .tc := ⟨.hbm, 219, rfl⟩
abbrev main_call2_v8 : Ref sig .tc := ⟨.hbm, 220, rfl⟩
abbrev main_call2_v9 : Ref sig .tc := ⟨.hbm, 221, rfl⟩
abbrev main_call2_v10 : Ref sig .tc := ⟨.hbm, 222, rfl⟩
abbrev main_call2_v11 : Ref sig .tc := ⟨.hbm, 223, rfl⟩
abbrev main_call2_v12 : Ref sig .tc := ⟨.hbm, 224, rfl⟩
abbrev main_call2_v13 : Ref sig .tc := ⟨.hbm, 225, rfl⟩
abbrev main_call2_v14 : Ref sig .tc := ⟨.hbm, 226, rfl⟩
abbrev main_call2_v15 : Ref sig .tc := ⟨.hbm, 227, rfl⟩
abbrev main_call2_v16 : Ref sig .tc := ⟨.hbm, 228, rfl⟩
abbrev main_v157 : Ref sig .tc := ⟨.hbm, 229, rfl⟩
abbrev main_v158 : Ref sig .tc := ⟨.hbm, 230, rfl⟩
abbrev main_v159 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_cst_13 : Ref sig .tc := ⟨.hbm, 235, rfl⟩
abbrev main_v163 : Ref sig .tc := ⟨.hbm, 236, rfl⟩
abbrev main_v164 : Ref sig .tc := ⟨.hbm, 237, rfl⟩
abbrev main_v165 : Ref sig .tc := ⟨.hbm, 238, rfl⟩
abbrev main_v166 : Ref sig .tc := ⟨.hbm, 239, rfl⟩
abbrev main_v167 : Ref sig .tc := ⟨.hbm, 240, rfl⟩
abbrev main_v168 : Ref sig .tc := ⟨.hbm, 241, rfl⟩
abbrev main_v169 : Ref sig .tc := ⟨.hbm, 242, rfl⟩
abbrev main_v170 : Ref sig .tc := ⟨.hbm, 243, rfl⟩
abbrev main_v171 : Ref sig .tc := ⟨.hbm, 244, rfl⟩
abbrev main_v172 : Ref sig .tc := ⟨.hbm, 245, rfl⟩
abbrev main_v173 : Ref sig .tc := ⟨.hbm, 246, rfl⟩
abbrev main_call3_c : Ref sig .tc := ⟨.hbm, 247, rfl⟩
abbrev main_call3_v0 : Ref sig .tc := ⟨.hbm, 248, rfl⟩
abbrev main_call3_v1 : Ref sig .tc := ⟨.hbm, 249, rfl⟩
abbrev main_call3_c_0 : Ref sig .tc := ⟨.hbm, 250, rfl⟩
abbrev main_call3_v2 : Ref sig .tc := ⟨.hbm, 251, rfl⟩
abbrev main_call3_v3 : Ref sig .tc := ⟨.hbm, 252, rfl⟩
abbrev main_call3_v4 : Ref sig .tc := ⟨.hbm, 253, rfl⟩
abbrev main_call3_v5 : Ref sig .tc := ⟨.hbm, 254, rfl⟩
abbrev main_v174 : Ref sig .tc := ⟨.hbm, 255, rfl⟩
abbrev main_v175 : Ref sig .tc := ⟨.hbm, 256, rfl⟩
abbrev main_v176 : Ref sig .tc := ⟨.hbm, 257, rfl⟩
abbrev main_v177 : Ref sig .tc := ⟨.hbm, 258, rfl⟩
abbrev main_v178 : Ref sig .tc := ⟨.hbm, 259, rfl⟩
abbrev main_v179 : Ref sig .tc := ⟨.hbm, 260, rfl⟩
abbrev main_v180 : Ref sig .tc := ⟨.hbm, 261, rfl⟩
abbrev main_call4_c : Ref sig .tc := ⟨.hbm, 262, rfl⟩
abbrev main_call4_v0 : Ref sig .tc := ⟨.hbm, 263, rfl⟩
abbrev main_call4_v1 : Ref sig .tc := ⟨.hbm, 264, rfl⟩
abbrev main_call4_c_0 : Ref sig .tc := ⟨.hbm, 265, rfl⟩
abbrev main_call4_v2 : Ref sig .tc := ⟨.hbm, 266, rfl⟩
abbrev main_call4_v3 : Ref sig .tc := ⟨.hbm, 267, rfl⟩
abbrev main_call4_v4 : Ref sig .tc := ⟨.hbm, 268, rfl⟩
abbrev main_call4_v5 : Ref sig .tc := ⟨.hbm, 269, rfl⟩
abbrev main_v181 : Ref sig .tc := ⟨.hbm, 270, rfl⟩
abbrev main_c : Ref sig .tc := ⟨.hbm, 271, rfl⟩
abbrev main_v182 : Ref sig .tc := ⟨.hbm, 272, rfl⟩
abbrev main_v183 : Ref sig .tc := ⟨.hbm, 273, rfl⟩
abbrev main_c_14 : Ref sig .tc := ⟨.hbm, 274, rfl⟩
abbrev main_c_15 : Ref sig .tc := ⟨.hbm, 275, rfl⟩
abbrev main_call5_v0 : Ref sig .tc := ⟨.hbm, 276, rfl⟩
abbrev main_call5_v1 : Ref sig .tc := ⟨.hbm, 277, rfl⟩
abbrev main_call5_v2 : Ref sig .tc := ⟨.hbm, 278, rfl⟩
abbrev main_call5_v3 : Ref sig .tc := ⟨.hbm, 279, rfl⟩
abbrev main_call5_v4 : Ref sig .tc := ⟨.hbm, 280, rfl⟩
abbrev main_v184 : Ref sig .tc := ⟨.hbm, 281, rfl⟩
abbrev main_v185 : Ref sig .tc := ⟨.hbm, 282, rfl⟩
abbrev main_c_16 : Ref sig .tc := ⟨.hbm, 283, rfl⟩
abbrev main_v186 : Ref sig .tc := ⟨.hbm, 284, rfl⟩
abbrev main_v187 : Ref sig .tc := ⟨.hbm, 285, rfl⟩
abbrev main_c_17 : Ref sig .tc := ⟨.hbm, 286, rfl⟩
abbrev main_v188 : Ref sig .tc := ⟨.hbm, 287, rfl⟩
abbrev main_v189 : Ref sig .tc := ⟨.hbm, 288, rfl⟩
abbrev main_v190 : Ref sig .tc := ⟨.hbm, 289, rfl⟩
abbrev main_call6_v0 : Ref sig .tc := ⟨.hbm, 290, rfl⟩
abbrev main_call6_v1 : Ref sig .tc := ⟨.hbm, 291, rfl⟩
abbrev main_call6_v2 : Ref sig .tc := ⟨.hbm, 292, rfl⟩
abbrev main_call6_v3 : Ref sig .tc := ⟨.hbm, 293, rfl⟩
abbrev main_call6_v4 : Ref sig .tc := ⟨.hbm, 294, rfl⟩
abbrev main_v191 : Ref sig .tc := ⟨.hbm, 295, rfl⟩
abbrev main_v192 : Ref sig .tc := ⟨.hbm, 296, rfl⟩
abbrev main_v193 : Ref sig .tc := ⟨.hbm, 297, rfl⟩
abbrev main_v194 : Ref sig .tc := ⟨.hbm, 298, rfl⟩
abbrev main_v195 : Ref sig .tc := ⟨.hbm, 299, rfl⟩
abbrev main_v196 : Ref sig .tc := ⟨.hbm, 300, rfl⟩
abbrev main_v197 : Ref sig .tc := ⟨.hbm, 301, rfl⟩
abbrev main_v198 : Ref sig .tc := ⟨.hbm, 302, rfl⟩
abbrev main_v199 : Ref sig .tc := ⟨.hbm, 303, rfl⟩
abbrev main_cst_18 : Ref sig .tc := ⟨.hbm, 304, rfl⟩
abbrev main_v200 : Ref sig .tc := ⟨.hbm, 305, rfl⟩
abbrev main_v201 : Ref sig .tc := ⟨.hbm, 306, rfl⟩
abbrev main_cst_19 : Ref sig .tc := ⟨.hbm, 307, rfl⟩
abbrev main_v202 : Ref sig .tc := ⟨.hbm, 308, rfl⟩
abbrev main_v203 : Ref sig .tc := ⟨.hbm, 309, rfl⟩
abbrev main_v204 : Ref sig .tc := ⟨.hbm, 310, rfl⟩
abbrev main_v205 : Ref sig .tc := ⟨.hbm, 311, rfl⟩
abbrev main_v206 : Ref sig .tc := ⟨.hbm, 312, rfl⟩
abbrev main_cst_20 : Ref sig .tc := ⟨.hbm, 313, rfl⟩
abbrev main_v207 : Ref sig .tc := ⟨.hbm, 314, rfl⟩
abbrev main_v208 : Ref sig .tc := ⟨.hbm, 315, rfl⟩
abbrev main_cst_21 : Ref sig .tc := ⟨.hbm, 316, rfl⟩
abbrev main_v209 : Ref sig .tc := ⟨.hbm, 317, rfl⟩
abbrev main_v210 : Ref sig .tc := ⟨.hbm, 318, rfl⟩
abbrev main_v211 : Ref sig .tc := ⟨.hbm, 319, rfl⟩
abbrev main_v212 : Ref sig .tc := ⟨.hbm, 320, rfl⟩
abbrev main_cst_22 : Ref sig .tc := ⟨.hbm, 321, rfl⟩
abbrev main_v213 : Ref sig .tc := ⟨.hbm, 322, rfl⟩
abbrev main_v214 : Ref sig .tc := ⟨.hbm, 323, rfl⟩
abbrev main_v215 : Ref sig .tc := ⟨.hbm, 324, rfl⟩
abbrev main_v216 : Ref sig .tc := ⟨.hbm, 325, rfl⟩
abbrev main_v217 : Ref sig .tc := ⟨.hbm, 326, rfl⟩
abbrev main_v218 : Ref sig .tc := ⟨.hbm, 327, rfl⟩
abbrev main_v219 : Ref sig .tc := ⟨.hbm, 328, rfl⟩
abbrev main_v220 : Ref sig .tc := ⟨.hbm, 329, rfl⟩
abbrev main_v221 : Ref sig .tc := ⟨.hbm, 330, rfl⟩
abbrev main_v222 : Ref sig .tc := ⟨.hbm, 331, rfl⟩
abbrev main_v223 : Ref sig .tc := ⟨.hbm, 332, rfl⟩

abbrev nD : Nat := 1
abbrev τ : Topo := Topo.v7x

variable {F : FTy → Type} [FloatOps F]
-- ==== Proof.Rounds.lean ====
module

public import proofs.«01_k».proof.Proof.Gen.KernelIdeal.Frame
public import Idealize.ShloMosaic.PureOps

/-! The thirty selection rounds of the kernel's body, as one recursion.

Every round takes the row minimum of the distances still left, picks the first column attaining it, reads that
column of the coordinate table by a product with the one-hot mask of the column, and replaces the distance there by the
named value "taken". -/

@[expose] public section

set_option maxRecDepth 16384

noncomputable section

namespace Cert.EdgeGraph

open Idealize.ShloMosaic Cert.KernelIdeal Cert.KernelIdeal.Gen

variable {F : FTy → Type} [FloatOps F] [Named F]

/-- The column number at every element. -/
def cols : IVec S128x1024 32 := iota .tc S128x1024 32 [1] iota_S128x1024_d1_w32

/-- The smallest distance of each row, as a column. -/
def low (v : FVec F S128x1024 .f32) : FVec F S128x1 .f32 :=
  shapeCast S128x1 (multiReduction .minimumf [1] S128 v 0x7F800000#32 reduces_S128x1024_S128 (.inl rfl) rfl)
    shapeCasts_S128_S128x1

/-- The first column of each row attaining the row's smallest distance. -/
def pick (v : FVec F S128x1024 .f32) : IVec S128x1 32 :=
  shapeCast S128x1
    (multiReductionI .minsi [1] S128
      (select (cmpf .oeq v (broadcastTo S128x1024 (low v) broadcasts_S128x1_S128x1024)) cols
        (broadcast S128x1024 4096#32))
      2147483647#32 reduces_S128x1024_S128 rfl)
    shapeCasts_S128_S128x1

/-- The mask of the picked column. -/
def hot (v : FVec F S128x1024 .f32) : IVec S128x1024 1 :=
  cmpi .eq cols (broadcastTo S128x1024 (pick v) broadcasts_S128x1_S128x1024)

/-- The mask as zeros and ones. -/
def ones (v : FVec F S128x1024 .f32) : FVec F S128x1024 .f32 := sitofp .f32 (extui 32 (hot v) natLt_1_32)

/-- The picked column of the coordinate table, given as a sum of two tables. -/
def gath (hi lo : FVec F S16x1024 .bf16) (v : FVec F S128x1024 .f32) : FVec F S128x16 .f32 :=
  addf
    (matmul dot_S128x1024_S16x1024_S128x16_1_1_0_0_n_n none (truncf .bf16 (ones v) bitsLt_bf16_f32) hi
      (constant S128x16 .f32 0x00000000#32))
    (matmul dot_S128x1024_S16x1024_S128x16_1_1_0_0_n_n none (truncf .bf16 (ones v) bitsLt_bf16_f32) lo
      (constant S128x16 .f32 0x00000000#32))

/-- The distances with the picked one replaced. -/
def drop (v : FVec F S128x1024 .f32) : FVec F S128x1024 .f32 :=
  select (hot v) (broadcast S128x1024 (Named.named κ "taken" 0x7149F2CA#32)) v

/-- The distances left after `n` rounds. -/
def rest (v : FVec F S128x1024 .f32) : Nat → FVec F S128x1024 .f32
  | 0 => v
  | n + 1 => drop (rest v n)

/-- The columns picked in the thirty rounds, one below the other. -/
def picked (d : FVec F S128x1024 .f32) : IVec S3840x1 32 :=
  concatenate S3840x1 0 (List.ofFn fun t : Fin 30 => ⟨S128x1, pick (rest d t)⟩) concatenates_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S3840x1_d0

/-- The columns picked in the thirty rounds, side by side. -/
def pickedRow (d : FVec F S128x1024 .f32) : IVec S128x30 32 :=
  concatenate S128x30 1 (List.ofFn fun t : Fin 30 => ⟨S128x1, pick (rest d t)⟩) concatenates_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x30_d1

/-- The table's columns read in the thirty rounds, one block of rows below the other. -/
def gathered (tab : FVec F S16x1024 .f32) (d : FVec F S128x1024 .f32) : FVec F S3840x16 .f32 :=
  concatenate S3840x16 0 (List.ofFn fun t : Fin 30 => ⟨S128x16, gath (k0_pay16 tab) (k0_pay17 tab) (rest d t)⟩) concatenates_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S128x16_S3840x16_d0

/-- A block repeated for the thirty rounds. -/
def again (q : FVec F S128x75 .f32) : FVec F S3840x75 .f32 :=
  concatenate S3840x75 0 (List.replicate 30 ⟨S128x75, q⟩) concatenates_S128x75_S128x75_S128x75_S128x75_S128x75_S128x75_S128x75_S128x75_S128x75_S128x75_S128x75_S128x75_S128x75_S128x75_S128x75_S128x75_S128x75_S128x75_S128x75_S128x75_S128x75_S128x75_S128x75_S128x75_S128x75_S128x75_S128x75_S128x75_S128x75_S128x75_S3840x75_d0

/-- The squared coordinate differences of the twenty-five pairs of atoms. -/
def diffs (q : FVec F S128x16 .f32) (g : FVec F S3840x16 .f32) (selA selB : Vec F S16x75 .f32) :
    FVec F S3840x75 .f32 :=
  have e : FVec F S3840x75 .f32 :=
    subf (again (matmul dot_S128x16_S16x75_S128x75_1_0_0_1_n_n (some .fp32) q selA
        (constant S128x75 .f32 0x00000000#32)))
      (matmul dot_S3840x16_S16x75_S3840x75_1_0_0_1_n_n (some .fp32) g selB (constant S3840x75 .f32 0x00000000#32))
  mulf e e

/-- The distances of the twenty-five pairs of atoms. -/
def pairs (e : FVec F S3840x75 .f32) (sum3 : Vec F S75x25 .f32) : FVec F S3840x25 .f32 :=
  sqrt (addf (matmul dot_S3840x75_S75x25_S3840x25_1_0_0_1_n_n (some .fp32) e sum3
    (constant S3840x25 .f32 0x00000000#32)) (broadcast S3840x25 (Scalar.ofBits .f32 0x358637BD#32)))

/-- Each pair's distance repeated for the sixteen basis functions. -/
def spread (p : FVec F S3840x25 .f32) (expand : Vec F S25x400 .f32) : FVec F S3840x400 .f32 :=
  have hi : FVec F S3840x25 .bf16 := truncf .bf16 p bitsLt_bf16_f32
  have lo : FVec F S3840x25 .bf16 := truncf .bf16 (subf p (extf .f32 hi bitsLt_bf16_f32)) bitsLt_bf16_f32
  have ex : FVec F S25x400 .bf16 := truncf .bf16 expand bitsLt_bf16_f32
  addf (matmul dot_S3840x25_S25x400_S3840x400_1_0_0_1_n_n none hi ex (constant S3840x400 .f32 0x00000000#32))
    (matmul dot_S3840x25_S25x400_S3840x400_1_0_0_1_n_n none lo ex (constant S3840x400 .f32 0x00000000#32))

section
variable (i : grid0.Coords) (x0 : Vec F S1x16x1024 .f32) (x1 : Vec F S1x1x128x16 .f32) (x2 : Vec F S16x75 .f32)
  (x3 : Vec F S16x75 .f32) (x4 : Vec F S75x25 .f32) (x5 : Vec F S25x400 .f32) (x6 : Vec F S66x16 .f32)
  (x7 : Vec F S1x16 .f32) (x8 : Vec F S128x416 .f32) (x9 : Vec F S1x128 .f32) (x10 : Vec F S1x128 .f32)

/-- The distances from the block's rows to every column. -/
def dists : FVec F S128x1024 .f32 := k0_pay15 (k0_pay193 i x0 x1 x2 x3 x4 x5 x6 x7 x8 x9 x10)

/-- The coordinate table of the batch: one row per coordinate of each of the five atoms, and the chain labels. -/
def table : FVec F S16x1024 .f32 := k0_pay186 i x0 x1 x2 x3 x4 x5 x6 x7 x8 x9 x10

/-- The block's own residues: one row per residue, the columns being the table's rows. -/
def own : FVec F S128x16 .f32 := k0_pay192 i x0 x1 x2 x3 x4 x5 x6 x7 x8 x9 x10

theorem low_rows_eq :
    k0_pay279 i x0 x1 x2 x3 x4 x5 x6 x7 x8 x9 x10 =
      k0_pay154
        (k0_pay152 (spread (pairs (diffs (own i x0 x1 x2 x3 x4 x5 x6 x7 x8 x9 x10) (gathered (table i x0 x1 x2 x3 x4 x5 x6 x7 x8 x9 x10) (dists i x0 x1 x2 x3 x4 x5 x6 x7 x8 x9 x10)) (View.ld x2 r0_3) (View.ld x3 r0_3))
          (View.ld x4 r0_4)) (View.ld x5 r0_5)) (Scalar.select (Scalar.cmpi .eq 16#32 0#32) 1#32 16#32) k0_pay151)
        (k0_pay153 (BitVec.ofNat 32 (i 1).val) (gathered (table i x0 x1 x2 x3 x4 x5 x6 x7 x8 x9 x10) (dists i x0 x1 x2 x3 x4 x5 x6 x7 x8 x9 x10)) (picked (dists i x0 x1 x2 x3 x4 x5 x6 x7 x8 x9 x10)) (k0_pay149 (own i x0 x1 x2 x3 x4 x5 x6 x7 x8 x9 x10)))
        (View.ld x6 r0_6) (View.ld x7 r0_7) (View.ld x8 r0_8) (View.ld x8 r0_8) := rfl

theorem out0_12_eq :
    out0_12 i x0 x1 x2 x3 x4 x5 x6 x7 x8 x9 x10 = View.canon [⟨r0_2, shapeCast S1x128x30 (pickedRow (dists i x0 x1 x2 x3 x4 x5 x6 x7 x8 x9 x10)) shapeCasts_S128x30_S1x128x30⟩] := rfl

end

end Cert.EdgeGraph
-- ==== Proof.Ranking.lean ====
/-
  The order in which the neighbours of one residue are taken. A row of distances is ranked by distance and, among equal
  distances, by position. `nearest d t` is the position of rank `t`, stated as the stable sort of the positions; `left d t`
  is the row after the first `t` of them have been struck out with `⊤`. The two facts that matter are that the first
  smallest entry of `left d t` stands at `nearest d t`, and that striking it out gives `left d (t + 1)`.
-/
module

public import Idealize.ShloMosaic.Lib.SortFacts
public import Idealize.ShloMosaic.Lib.Pointwise

@[expose] public section

noncomputable section

namespace Cert.EdgeGraph

open Idealize.ShloMosaic

variable {n : Nat}

/-- Position `i` ranks before position `j`: it is nearer, or equally near and of lower position. -/
def Before (d : Fin n → EReal) (i j : Fin n) : Prop := d i < d j ∨ (d i = d j ∧ i < j)

open Classical in
/-- The position of rank `t`. -/
def nearest (d : Fin n → EReal) (t : Fin n) : Fin n := sortedFrom (fun a b => decide (d a < d b)) t

theorem mem_stableSort {R : Fin n → Fin n → Bool} {l : List (Fin n)} {b : Fin n} : b ∈ stableSort R l ↔ b ∈ l :=
  (perm_stableSort R l).mem_iff

/-- A stable sort of positions listed in order only ever asks whether a later position sorts before an earlier one. -/
theorem stableSort_ordered (R R' : Fin n → Fin n → Bool) (h : ∀ a b, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    exact insertBefore_congr _ _ _ _ fun b hb => h a b (hl.1 b (mem_stableSort.mp hb))

theorem sortedFrom_ordered (R R' : Fin n → Fin n → Bool) (h : ∀ a b, a < b → R b a = R' b a) :
    sortedFrom R = sortedFrom R' := by
  have hp : sortPositions n R = sortPositions n R' :=
    stableSort_ordered R R' h _ (List.sortedLT_finRange n).pairwise
  funext k
  unfold sortedFrom
  rw [List.get_of_eq hp]
  rfl

open Classical in
theorem nearest_eq_before (d : Fin n → EReal) : nearest d = sortedFrom (fun a b => decide (Before d a b)) := by
  funext t
  refine congrFun (sortedFrom_ordered _ _ fun a b hab => ?_) t
  by_cases h : d b < d a
  · simp [Before, h]
  · simp [Before, h, hab.le]

theorem before_asymm (d : Fin n → EReal) {i j : Fin n} (h : Before d i j) : ¬ Before d j i := by
  rintro (h' | h') <;> rcases h with h | h
  · exact lt_asymm h h'
  · exact absurd h.1 h'.ne'
  · exact absurd h'.1 h.ne'
  · exact lt_asymm h.2 h'.2

theorem before_total (d : Fin n → EReal) {i j : Fin n} (h : ¬ Before d i j) : Before d j i ∨ i = j := by
  rcases lt_trichotomy (d i) (d j) with hd | hd | hd
  · exact absurd (Or.inl hd) h
  · rcases lt_trichotomy i j with hi | hi | hi
    · exact absurd (Or.inr ⟨hd, hi⟩) h
    · exact Or.inr hi
    · exact Or.inl (Or.inr ⟨hd.symm, hi⟩)
  · exact Or.inl (Or.inl hd)

theorem before_trans (d : Fin n → EReal) {i j k : Fin n} (h : Before d i j) (h' : Before d j k) : Before d i k := by
  rcases h with h | h <;> rcases h' with h' | h'
  · exact Or.inl (h.trans h')
  · exact Or.inl (h'.1 ▸ h)
  · exact Or.inl (h.1 ▸ h')
  · exact Or.inr ⟨h.1.trans h'.1, h.2.trans h'.2⟩

theorem nearest_injective (d : Fin n → EReal) : Function.Injective (nearest d) := sortedFrom_injective _

theorem nearest_surjective (d : Fin n → EReal) : Function.Surjective (nearest d) := sortedFrom_surjective _

/-- Ranks follow the order. -/
theorem nearest_before (d : Fin n → EReal) {s t : Fin n} (h : s < t) : Before d (nearest d s) (nearest d t) := by
  classical
  have hno : ¬ Before d (nearest d t) (nearest d s) := by
    rw [nearest_eq_before]
    have := sortedFrom_noInversion (fun a b => decide (Before d a b)) (fun a b => decide (Before d a b))
      (fun a b hab => by simpa using before_asymm d (of_decide_eq_true hab)) (fun a b hab => hab)
      (fun a b c hab hbc => by
        simp only [decide_eq_false_iff_not] at hab hbc ⊢
        intro hac
        rcases before_total d hab with hba | rfl
        · exact hbc (before_trans d hba hac)
        · exact hbc hac) s t h
    simpa using this
  rcases before_total d hno with h' | h'
  · exact h'
  · exact absurd (nearest_injective d h').symm h.ne

open Classical in
/-- The row with the first `t` of the ranking struck out. -/
def left (d : Fin n → EReal) (t : Nat) (l : Fin n) : EReal := if ∃ s : Fin n, s.val < t ∧ nearest d s = l then ⊤ else d l

theorem left_zero (d : Fin n → EReal) : left d 0 = d := by
  funext l
  unfold left
  rw [if_neg]
  rintro ⟨s, hs, _⟩
  exact Nat.not_lt_zero _ hs

theorem left_succ (d : Fin n → EReal) (t : Fin n) (l : Fin n) :
    left d (t.val + 1) l = if l = nearest d t then ⊤ else left d t.val l := by
  classical
  by_cases h : l = nearest d t
  · rw [if_pos h]
    unfold left
    rw [if_pos ⟨t, Nat.lt_succ_self _, h.symm⟩]
  · rw [if_neg h]
    unfold left
    refine if_congr ⟨fun ⟨s, hs, he⟩ => ⟨s, ?_, he⟩, fun ⟨s, hs, he⟩ => ⟨s, by omega, he⟩⟩ rfl rfl
    rcases Nat.lt_succ_iff_lt_or_eq.mp hs with h' | h'
    · exact h'
    · exact absurd (Fin.ext h' ▸ he).symm h

theorem left_nearest (d : Fin n → EReal) (t : Fin n) : left d t.val (nearest d t) = d (nearest d t) := by
  unfold left
  rw [if_neg]
  rintro ⟨s, hs, he⟩
  exact absurd (congrArg Fin.val (nearest_injective d he)) hs.ne

/-- Nothing left over is nearer than the position of rank `t`. -/
theorem le_left (d : Fin n → EReal) (t l : Fin n) : d (nearest d t) ≤ left d t.val l := by
  unfold left
  split
  · exact le_top
  · next h =>
    obtain ⟨s, rfl⟩ := nearest_surjective d l
    rcases lt_or_ge s t with hs | hs
    · exact absurd ⟨s, hs, rfl⟩ h
    · rcases eq_or_lt_of_le hs with rfl | hs
      · exact le_rfl
      · rcases nearest_before d hs with h' | h'
        · exact h'.le
        · exact h'.1.le

/-- Whatever is equally near and left over has a higher position. -/
theorem nearest_le_of_left_eq (d : Fin n → EReal) (hd : ∀ l, d l ≠ ⊤) (t l : Fin n)
    (h : left d t.val l = d (nearest d t)) : nearest d t ≤ l := by
  unfold left at h
  split at h
  · exact absurd h.symm (hd _)
  · next hn =>
    obtain ⟨s, rfl⟩ := nearest_surjective d l
    rcases lt_or_ge s t with hs | hs
    · exact absurd ⟨s, hs, rfl⟩ hn
    · rcases eq_or_lt_of_le hs with rfl | hs
      · exact le_rfl
      · rcases nearest_before d hs with h' | h'
        · exact absurd h h'.ne'
        · exact h'.2.le

end Cert.EdgeGraph

end
-- ==== Proof.Rows.lean ====
module

public import proofs.«01_k».proof.Proof.Rounds
public import proofs.«01_k».proof.Proof.Ranking
public import Idealize.ShloMosaic.Lib.Pointwise
public import Idealize.ShloMosaic.Lib.SortNet.Extract
public import Idealize.ShloMosaic.PureOps.IdealRules
public import Idealize.ShloMosaic.Lib.WordCmp

/-! The selection rounds read row by row, over the extended reals: round `t` picks the residue that is `t`-th nearest,
and reads that residue's column of the table. -/

@[expose] public section

set_option maxRecDepth 16384

noncomputable section

namespace Cert.EdgeGraph

open Idealize.ShloMosaic Cert.KernelIdeal Cert.KernelIdeal.Gen

theorem taken_eq : (Named.named κ "taken" 0x7149F2CA#32 : Ideal .f32) = (⊤ : EReal) := by
  simp [Named.named, κ]

theorem fold_min_eq {n : Nat} (f : Fin n → EReal) (i : Fin n) (hi : ∀ l, f i ≤ f l) :
    Finset.fold min ⊤ f Finset.univ = f i := by
  refine le_antisymm ((Finset.fold_min_le _).2 (.inr ⟨i, Finset.mem_univ _, le_rfl⟩)) ?_
  exact (Finset.le_fold_min _).2 ⟨le_top, fun l _ => hi l⟩

theorem fold_minsi_eq {n : Nat} (z : BitVec 32) (f : Fin n → BitVec 32) (i : Fin n) (hz : (f i).toInt ≤ z.toInt)
    (hi : ∀ l, (f i).toInt ≤ (f l).toInt) : Finset.fold IntOp.minsi z f Finset.univ = f i := by
  refine BitVec.eq_of_toInt_eq ?_
  rw [← Finset.fold_hom (op' := min) (m := BitVec.toInt) fun x y => SortNet.toInt_minsi x y]
  refine le_antisymm ((Finset.fold_min_le _).2 (.inr ⟨i, Finset.mem_univ _, le_rfl⟩)) ?_
  exact (Finset.le_fold_min _).2 ⟨hz, fun l _ => hi l⟩

theorem toInt_col (i : Fin 1024) : (BitVec.ofNat 32 i.val).toInt = i.val := by
  have := i.isLt
  rw [BitVec.toInt_eq_toNat_of_lt (by simp; omega)]
  simp; omega

/-- A column that holds the row's smallest value, and is the first to, is the one picked. -/
theorem pick_apply (v : FVec Ideal S128x1024 .f32) (r : Fin 128) (i : Fin 1024)
    (hi : ∀ l, v (ix2 r i) ≤ v (ix2 r l)) (hmin : ∀ l, v (ix2 r l) = v (ix2 r i) → i ≤ l) :
    pick v (ix2 r 0) = BitVec.ofNat 32 i.val := by
  pointwise [pick, low, cols]
  have hlow : Finset.fold min (Ideal.ofBits .f32 2139095040#32) (fun x => v (ix2 r x)) Finset.univ = v (ix2 r i) := by
    rw [show Ideal.ofBits .f32 2139095040#32 = (⊤ : EReal) from by simp [Ideal.ofBits, Ideal.ieee]]
    exact fold_min_eq (fun x => v (ix2 r x)) i hi
  rw [hlow]
  have hin := i.isLt
  refine (fold_minsi_eq _ _ i ?_ fun l => ?_).trans (if_pos rfl)
  · rw [if_pos rfl, toInt_col]
    simp; omega
  · rw [if_pos rfl, toInt_col]
    split
    · next h => rw [toInt_col]; exact_mod_cast hmin l h
    · simp; omega

/-- The mask of the picked column. -/
theorem hot_apply (v : FVec Ideal S128x1024 .f32) (r : Fin 128) (i l : Fin 1024)
    (h : pick v (ix2 r 0) = BitVec.ofNat 32 i.val) : hot v (ix2 r l) = if l = i then 1#1 else 0#1 := by
  pointwise [hot, cols]
  rw [h]
  have := i.isLt; have := l.isLt
  rw [WordCmp.cmpi_eq_ofNat (by omega) (by omega)]
  by_cases e : l = i
  · simp [e]
  · rw [if_neg e]; simp [Fin.val_ne_of_ne e]

theorem drop_apply (v : FVec Ideal S128x1024 .f32) (r : Fin 128) (i l : Fin 1024)
    (h : pick v (ix2 r 0) = BitVec.ofNat 32 i.val) : drop v (ix2 r l) = if l = i then (⊤ : EReal) else v (ix2 r l) := by
  pointwise [drop]
  rw [hot_apply v r i l h, taken_eq]
  split <;> rfl

/-- After `n` rounds the row holds its distances, those picked replaced; round `n` picks the `n`-th nearest. -/
theorem rest_apply (d : FVec Ideal S128x1024 .f32) (r : Fin 128) (hd : ∀ l, d (ix2 r l) ≠ (⊤ : EReal))
    (t : Fin 1024) :
    (∀ l, rest d t.val (ix2 r l) = left (fun l => d (ix2 r l)) t.val l) ∧
      pick (rest d t.val) (ix2 r 0) = BitVec.ofNat 32 (nearest (fun l => d (ix2 r l)) t).val := by
  have step : ∀ t : Fin 1024, (∀ l, rest d t.val (ix2 r l) = left (fun l => d (ix2 r l)) t.val l) →
      pick (rest d t.val) (ix2 r 0) = BitVec.ofNat 32 (nearest (fun l => d (ix2 r l)) t).val := by
    intro t ht
    refine pick_apply _ _ _ (fun l => ?_) fun l h => ?_
    · rw [ht, ht, left_nearest]; exact le_left (fun l => d (ix2 r l)) t l
    · rw [ht, ht, left_nearest] at h
      exact nearest_le_of_left_eq (fun l => d (ix2 r l)) hd t l h
  have all : ∀ n (hn : n < 1024), ∀ l, rest d n (ix2 r l) = left (fun l => d (ix2 r l)) n l := by
    intro n
    induction n with
    | zero => intro _ l; rw [left_zero]; rfl
    | succ n ih =>
      intro hn l
      have hp := step ⟨n, by omega⟩ (ih (by omega))
      rw [left_succ _ ⟨n, by omega⟩]
      show drop (rest d n) (ix2 r l) = _
      rw [drop_apply _ _ _ _ hp, ih (by omega)]
  exact ⟨all t.val t.isLt, step t (all t.val t.isLt)⟩

/-- The product with the mask of one column reads that column. -/
theorem gath_apply (t : FVec Ideal S16x1024 .f32) (v : FVec Ideal S128x1024 .f32) (r : Fin 128) (i : Fin 1024)
    (k : Fin 16) (h : pick v (ix2 r 0) = BitVec.ofNat 32 i.val) (htop : t (ix2 k i) ≠ (⊤ : EReal))
    (hbot : t (ix2 k i) ≠ (⊥ : EReal)) :
    gath (k0_pay16 t) (k0_pay17 t) v (ix2 r k) = t (ix2 k i) := by
  pointwise [gath, k0_pay16, k0_pay17, ones]
  have one : ∀ x : Fin 1024, (FloatOps.sitofp FTy.f32 (BitVec.setWidth 32 (hot v (ix2 r x))) : Ideal .f32)
      = if x = i then (1 : EReal) else 0 := by
    intro x
    rw [hot_apply v r i x h]
    split <;> simp [FloatOps.sitofp]
  simp only [one, ite_mul, one_mul, zero_mul, Finset.sum_ite_eq', Finset.mem_univ, if_true]
  rw [EReal.sub_self htop hbot, add_zero]

end Cert.EdgeGraph
-- ==== Proof.Spec.lean ====
module

public import proofs.«01_k».proof.Proof.Ranking
public import Idealize.ShloMosaic.Lib.Pointwise

/-! What both programs compute, for one batch: the five atoms of each residue, the distances of pairs of atoms, the
thirty nearest residues, the features of each neighbour and their normalised projection. -/

@[expose] public section

noncomputable section

namespace Cert.EdgeGraph

open Idealize.ShloMosaic

/-! ## Real values among the extended reals -/

/-- Neither of the infinities. -/
def IsReal (x : EReal) : Prop := ∃ r : ℝ, x = r

theorem IsReal.ne_top {x : EReal} (h : IsReal x) : x ≠ ⊤ := by obtain ⟨r, rfl⟩ := h; exact EReal.coe_ne_top r
theorem IsReal.ne_bot {x : EReal} (h : IsReal x) : x ≠ ⊥ := by obtain ⟨r, rfl⟩ := h; exact EReal.coe_ne_bot r
theorem isReal_iff {x : EReal} : IsReal x ↔ x ≠ ⊤ ∧ x ≠ ⊥ :=
  ⟨fun h => ⟨h.ne_top, h.ne_bot⟩, fun h => ⟨x.toReal, (EReal.coe_toReal h.1 h.2).symm⟩⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.sub_self {x : EReal} (h : IsReal x) : x - x = 0 := EReal.sub_self h.ne_top h.ne_bot

/-- A sum is real exactly when both terms are. -/
theorem isReal_add_iff {x y : EReal} : IsReal (x + y) ↔ IsReal x ∧ IsReal y := by
  refine ⟨fun h => ?_, fun h => h.1.add h.2⟩
  rw [isReal_iff] at h
  constructor <;> rw [isReal_iff] <;> induction x <;> induction y <;> simp_all

/-- A sum is real exactly when every term is. -/
theorem isReal_sum_iff {ι : Type*} (s : Finset ι) (f : ι → EReal) :
    IsReal (∑ i ∈ s, f i) ↔ ∀ i ∈ s, IsReal (f i) := by
  classical
  induction s using Finset.induction_on with
  | empty => simp only [Finset.sum_empty]; exact ⟨fun _ i hi => absurd hi (Finset.notMem_empty i), fun _ => ⟨0, rfl⟩⟩
  | insert a s ha ih => rw [Finset.sum_insert ha, isReal_add_iff, ih, Finset.forall_mem_insert]

/-- The square of a difference, in either order. -/
theorem sq_sub_comm {x y : EReal} (hx : IsReal x) (hy : IsReal y) : (x - y) * (x - y) = (y - x) * (y - x) := by
  obtain ⟨a, rfl⟩ := hx; obtain ⟨b, rfl⟩ := hy
  rw [← EReal.coe_sub, ← EReal.coe_sub, ← EReal.coe_mul, ← EReal.coe_mul]
  congr 1; ring

/-- A pattern whose exponent is not all ones is a real number. -/
theorem isReal_ofBits {b : BitVec 32} (h : b.extractLsb' 23 8 ≠ 255#8) : IsReal (Ideal.ofBits .f32 b) := by
  have h' : (b.extractLsb' 23 8).toNat ≠ 255 := fun e => h (BitVec.eq_of_toNat_eq e)
  unfold Ideal.ofBits Ideal.ieee
  simp only
  split_ifs <;> first | (exact ⟨_, rfl⟩) | (exfalso; simp_all)

/-! ## The geometry -/

section
variable {ι : Type} (X : ι → Fin 4 → Fin 3 → EReal)

/-- From the first atom to the third. -/
def armB (j : ι) (k : Fin 3) : EReal := X j 2 k - X j 0 k

/-- From the third atom to the second. -/
def armC (j : ι) (k : Fin 3) : EReal := X j 1 k - X j 2 k

/-- The cross product of two vectors. -/
def cross (a b : Fin 3 → EReal) (k : Fin 3) : EReal :=
  match k with
  | 0 => a 1 * b 2 - a 2 * b 1
  | 1 => a 2 * b 0 - a 0 * b 2
  | 2 => a 0 * b 1 - a 1 * b 0

/-- The virtual fifth atom. -/
def virtual (j : ι) (k : Fin 3) : EReal :=
  Ideal.ofBits .f32 0xBF152E13#32 * cross (armB X j) (armC X j) k + Ideal.ofBits .f32 0x3F116A4D#32 * armB X j k
    - Ideal.ofBits .f32 0x3F0A69A8#32 * armC X j k + X j 2 k

/-- The five atoms of a residue. -/
def atom (a : Fin 5) (j : ι) (k : Fin 3) : EReal :=
  match a with
  | 0 => X j 0 k
  | 1 => X j 1 k
  | 2 => X j 2 k
  | 3 => X j 3 k
  | 4 => virtual X j k

theorem atom_congr {ι κ : Type} {X : ι → Fin 4 → Fin 3 → EReal} {Y : κ → Fin 4 → Fin 3 → EReal} {i : ι} {j : κ}
    (h : ∀ a k, X i a k = Y j a k) (a : Fin 5) (k : Fin 3) : atom X a i k = atom Y a j k := by
  fin_cases a <;> simp [atom, virtual, armB, armC, h]
  fin_cases k <;> simp [cross, armB, armC, h]

theorem atom_isReal {ι : Type} {X : ι → Fin 4 → Fin 3 → EReal} {j : ι} (h : ∀ a k, IsReal (X j a k)) (a : Fin 5)
    (k : Fin 3) : IsReal (atom X a j k) := by
  have hB : ∀ k, IsReal (armB X j k) := fun k => (h _ _).sub (h _ _)
  have hC : ∀ k, IsReal (armC X j k) := fun k => (h _ _).sub (h _ _)
  have hx : IsReal (cross (armB X j) (armC X j) k) := by
    fin_cases k <;> exact ((hB _).mul (hC _)).sub ((hB _).mul (hC _))
  fin_cases a
  · exact h _ _
  · exact h _ _
  · exact h _ _
  · exact h _ _
  · exact ((((isReal_ofBits (by decide)).mul hx).add ((isReal_ofBits (by decide)).mul (hB _))).sub
      ((isReal_ofBits (by decide)).mul (hC _))).add (h _ _)

end

section
variable (X : Fin 1024 → Fin 4 → Fin 3 → EReal)

/-- The squared distance from atom `a` of residue `i` to atom `b` of residue `j`. -/
def gap2 (a b : Fin 5) (i j : Fin 1024) : EReal :=
  ∑ k : Fin 3, (atom X a i k - atom X b j k) * (atom X a i k - atom X b j k)

/-- The distance, with the small constant under the root. -/
def gap (a b : Fin 5) (i j : Fin 1024) : EReal := Ideal.sqrt (gap2 X a b i j + Ideal.ofBits .f32 0x358637BD#32)

/-- The `t`-th nearest residue of residue `i`. -/
def near (i t : Fin 1024) : Fin 1024 := nearest (gap X 1 1 i) t

/-- The first and second atom of each of the twenty-five pairs. -/
def firstOf : Fin 25 → Fin 5 := ![1, 0, 2, 4, 1, 1, 1, 0, 0, 4, 0, 2, 4, 2, 4, 2, 3, 1, 3, 0, 3, 4, 3, 3, 2]
def secondOf : Fin 25 → Fin 5 := ![1, 0, 2, 4, 0, 2, 4, 2, 4, 2, 1, 1, 1, 0, 0, 4, 3, 3, 1, 3, 0, 3, 2, 4, 3]

/-- A distance seen by the `m`-th of sixteen basis functions. -/
def bump (d : EReal) (m : Fin 16) : EReal :=
  Ideal.exp (-(Ideal.div (d - ((2 + 4 / 3 * (m.val : ℝ) : ℝ) : EReal)) (Ideal.ofBits .f32 0x3FA00000#32)
    * Ideal.div (d - ((2 + 4 / 3 * (m.val : ℝ) : ℝ) : EReal)) (Ideal.ofBits .f32 0x3FA00000#32)))

/-- The `e`-th distance feature of residue `j` seen from residue `i`. -/
def radial (i j : Fin 1024) (e : Fin 400) : EReal :=
  bump (gap X (firstOf ⟨e.val / 16, by omega⟩) (secondOf ⟨e.val / 16, by omega⟩) i j) ⟨e.val % 16, by omega⟩

/-- Under real coordinates a distance is real. -/
theorem gap_isReal (h : ∀ j a k, IsReal (X j a k)) (a b : Fin 5) (i j : Fin 1024) : IsReal (gap X a b i j) := by
  have hd : ∀ k, ∃ r : ℝ, atom X a i k - atom X b j k = r := fun k =>
    (atom_isReal (h i) a k).sub (atom_isReal (h j) b k)
  choose d hd using hd
  have hs : gap2 X a b i j = ((∑ k : Fin 3, d k * d k : ℝ) : EReal) := by
    simp only [gap2, hd, Fin.sum_univ_three, EReal.coe_add, EReal.coe_mul]
  have he : Ideal.ofBits .f32 0x358637BD#32 = ((8796093 * (1 / 8796093022208) : ℝ) : EReal) := by
    simp [Ideal.ofBits, Ideal.ieee]
    norm_num
  have hn : (0 : ℝ) ≤ ∑ k : Fin 3, d k * d k := Finset.sum_nonneg fun k _ => mul_self_nonneg _
  have hp : (0 : ℝ) ≤ 8796093 * (1 / 8796093022208) := by norm_num
  rw [gap, hs, he, ← EReal.coe_add, Ideal.sqrt_coe, if_neg (not_lt.2 (add_nonneg hn hp))]
  exact ⟨_, rfl⟩

/-- The squared distance of the second atoms is the same from either end. -/
theorem gap2_comm (h : ∀ j a k, IsReal (X j a k)) (a : Fin 5) (i j : Fin 1024) : gap2 X a a i j = gap2 X a a j i :=
  Finset.sum_congr rfl fun k _ => sq_sub_comm (atom_isReal (h i) a k) (atom_isReal (h j) a k)

end

section
variable (C : Fin 1024 → BitVec 32) (W : Fin 16 → Fin 66 → EReal) (bias : Fin 16 → EReal)

/-- The clipped difference of positions, or the last class for residues of two chains. -/
def place (i j : Fin 1024) : BitVec 32 :=
  if C i = C j then
    IntOp.minsi 64#32 (IntOp.maxsi 0#32 (BitVec.ofNat 32 i.val - BitVec.ofNat 32 j.val + 32#32))
  else 65#32

/-- The positional features of residue `j` seen from residue `i`. -/
def positional (i j : Fin 1024) (c : Fin 16) : EReal :=
  (∑ q : Fin 66, (if place C i j = BitVec.ofNat 32 q.val then (1 : EReal) else 0) * W c q) + bias c

end

/-! ## The normalised projection -/

/-- The projection of sixteen positional and four hundred distance features. -/
def project (E : Fin 128 → Fin 416 → EReal) (p : Fin 16 → EReal) (s : Fin 400 → EReal) (f : Fin 128) : EReal :=
  (∑ c : Fin 16, p c * E f ⟨c.val, by omega⟩) + ∑ e : Fin 400, s e * E f ⟨16 + e.val, by omega⟩

/-- The mean of a row. -/
def mean (y : Fin 128 → EReal) : EReal := Ideal.div (∑ f, y f) (Ideal.ofBits .f32 0x43000000#32)

/-- A row normalised, scaled and shifted. -/
def norm (y g b : Fin 128 → EReal) (f : Fin 128) : EReal :=
  Ideal.div (y f - mean y)
      (Ideal.sqrt (mean (fun f => (y f - mean y) * (y f - mean y)) + Ideal.ofBits .f32 0x3727C5AC#32)) * g f + b f

theorem div_128_top : Ideal.div ⊤ (Ideal.ofBits .f32 0x43000000#32) = ⊤ := by
  have h : Ideal.ofBits .f32 0x43000000#32 = ((128 : ℝ) : EReal) := by
    simp [Ideal.ofBits, Ideal.ieee]
    rw [← EReal.coe_mul]
    norm_num
  rw [h, Ideal.div, if_neg (by norm_num), ← EReal.coe_inv]
  exact EReal.top_mul_coe_of_pos (by norm_num)

theorem div_128_bot : Ideal.div ⊥ (Ideal.ofBits .f32 0x43000000#32) = ⊥ := by
  have h : Ideal.ofBits .f32 0x43000000#32 = ((128 : ℝ) : EReal) := by
    simp [Ideal.ofBits, Ideal.ieee]
    rw [← EReal.coe_mul]
    norm_num
  rw [h, Ideal.div, if_neg (by norm_num), ← EReal.coe_inv]
  exact EReal.bot_mul_coe_of_pos (by norm_num)

/-- A row with an infinite entry normalises to zero, so that the shift alone is left. -/
theorem norm_of_infinite (y g b : Fin 128 → EReal) (f₀ : Fin 128) (h : ¬ IsReal (y f₀)) (f : Fin 128) :
    norm y g b f = b f := by
  have hs : ¬ IsReal (∑ f, y f) := fun hs => h ((isReal_sum_iff _ _).1 hs f₀ (Finset.mem_univ _))
  have hm : mean y = ⊤ ∨ mean y = ⊥ := by
    unfold mean
    rw [isReal_iff, not_and_or, not_not, not_not] at hs
    rcases hs with hs | hs
    · exact .inl (by rw [hs, div_128_top])
    · exact .inr (by rw [hs, div_128_bot])
  have hsq : ∀ f, (y f - mean y) * (y f - mean y) = ⊤ := by
    intro f
    rcases hm with hm | hm <;> rw [hm] <;> induction y f <;> simp
  have hv : mean (fun f => (y f - mean y) * (y f - mean y)) = ⊤ := by
    have : ∑ f : Fin 128, (y f - mean y) * (y f - mean y) = ⊤ := by
      simp only [hsq]
      rw [Finset.sum_const, Finset.card_univ, Fintype.card_fin]
      rw [EReal.nsmul_eq_mul]
      exact EReal.mul_top_of_pos (by norm_num)
    unfold mean at this ⊢
    rw [this, div_128_top]
  have he : IsReal (Ideal.ofBits .f32 0x3727C5AC#32) := isReal_ofBits (by decide)
  have ht : Ideal.sqrt (mean (fun f => (y f - mean y) * (y f - mean y)) + Ideal.ofBits .f32 0x3727C5AC#32) = ⊤ := by
    obtain ⟨r, hr⟩ := he
    rw [hv, hr, EReal.top_add_coe]
    rfl
  unfold norm
  rw [ht, Ideal.div, if_neg (by simp), EReal.inv_top, mul_zero, zero_mul, zero_add]

end Cert.EdgeGraph
-- ==== Proof.Geometry.lean ====
module

public import proofs.«01_k».proof.Proof.Rounds
public import proofs.«01_k».proof.Proof.Spec

/-! The kernel's coordinate tables hold the five atoms, and its distances are the distances of the second atoms. -/

@[expose] public section

set_option maxRecDepth 16384

noncomputable section

namespace Cert.EdgeGraph

open Idealize.ShloMosaic Cert.KernelIdeal Cert.KernelIdeal.Gen

/-- The row of the table holding coordinate `k` of atom `a`. -/
abbrev slot (a : Fin 5) (k : Fin 3) : Fin 16 := ⟨3 * a.val + k.val, by omega⟩

/-- The four atoms given, in the layout with residues along the last axis. -/
def givenCols (x : FVec Ideal S1x16x1024 .f32) (j : Fin 1024) (a : Fin 4) (k : Fin 3) : EReal :=
  x (ix3 0 ⟨3 * a.val + k.val, by omega⟩ j)

theorem table_atom (x : FVec Ideal S1x16x1024 .f32) (a : Fin 5) (k : Fin 3) (j : Fin 1024) :
    k0_pay6 (F := Ideal) x (ix2 (slot a k) j) = atom (givenCols x) a j k := by
  fin_cases a <;> fin_cases k <;> pointwise [k0_pay6, slot, atom, virtual, cross, armB, armC, givenCols]

theorem table_chain (x : FVec Ideal S1x16x1024 .f32) (j : Fin 1024) :
    k0_pay6 (F := Ideal) x (ix2 15 j) = x (ix3 0 12 j) := by
  pointwise [k0_pay6]

/-- The four atoms given, in the layout with residues along the rows. -/
def givenRows (x : FVec Ideal S1x1x128x16 .f32) (r : Fin 128) (a : Fin 4) (k : Fin 3) : EReal :=
  x (ix4 0 0 r ⟨3 * a.val + k.val, by omega⟩)

/-- The block's own rows, from its loaded input. -/
def ownRows (x : FVec Ideal S1x1x128x16 .f32) : FVec Ideal S128x16 .f32 :=
  k0_pay13 (k0_pay8 x) (k0_pay9 x) (k0_pay10 x) (k0_pay11 x) (k0_pay12 x)

theorem ownRows_atom (x : FVec Ideal S1x1x128x16 .f32) (a : Fin 5) (k : Fin 3) (r : Fin 128) :
    ownRows x (ix2 r (slot a k)) = atom (givenRows x) a r k := by
  fin_cases a <;> fin_cases k <;> pointwise [ownRows, k0_pay13, k0_pay12, k0_pay11, k0_pay10, k0_pay9, k0_pay8, k0_pay7,
    slot, atom, virtual, cross, armB, armC, givenRows]

theorem ownRows_chain (x : FVec Ideal S1x1x128x16 .f32) (r : Fin 128) :
    ownRows x (ix2 r 15) = x (ix4 0 0 r 12) := by
  pointwise [ownRows, k0_pay13, k0_pay12, k0_pay11, k0_pay10, k0_pay9, k0_pay8, k0_pay7]

theorem dists_apply (t : FVec Ideal S16x1024 .f32) (x : FVec Ideal S1x1x128x16 .f32) (r : Fin 128) (l : Fin 1024) :
    k0_pay15 (k0_pay14 t (k0_pay8 x) (k0_pay9 x) (k0_pay10 x) (k0_pay11 x) (k0_pay12 x)) (ix2 r l)
      = Ideal.sqrt ((∑ k : Fin 3, (ownRows x (ix2 r (slot 1 k)) - t (ix2 (slot 1 k) l))
          * (ownRows x (ix2 r (slot 1 k)) - t (ix2 (slot 1 k) l))) + Ideal.ofBits .f32 0x358637BD#32) := by
  have ho : k0_pay13 (k0_pay8 x) (k0_pay9 x) (k0_pay10 x) (k0_pay11 x) (k0_pay12 x) = ownRows x := rfl
  pointwise [k0_pay15, k0_pay14, ho, Fin.sum_univ_three, slot]

end Cert.EdgeGraph
-- ==== Proof.Neighbours.lean ====
module

public import proofs.«01_k».proof.Proof.Rows
public import proofs.«01_k».proof.Proof.Geometry

/-! The kernel's picks of one block are the nearest residues, and what it gathers are their atoms. -/

@[expose] public section

set_option maxRecDepth 16384

noncomputable section

namespace Cert.EdgeGraph

open Idealize.ShloMosaic Cert.KernelIdeal Cert.KernelIdeal.Gen

/-- What a block's two coordinate inputs hold: the batch's residues along the last axis, and the block's own residues
`res` along the rows, with the chain label of each. -/
structure Holds (x0 : FVec Ideal S1x16x1024 .f32) (x1 : FVec Ideal S1x1x128x16 .f32)
    (X : Fin 1024 → Fin 4 → Fin 3 → EReal) (chain : Fin 1024 → EReal) (res : Fin 128 → Fin 1024) : Prop where
  cols : ∀ j a k, givenCols x0 j a k = X j a k
  colChain : ∀ j, x0 (ix3 0 12 j) = chain j
  rows : ∀ r a k, givenRows x1 r a k = X (res r) a k
  rowChain : ∀ r, x1 (ix4 0 0 r 12) = chain (res r)
  real : ∀ j a k, IsReal (X j a k)
  realChain : ∀ j, IsReal (chain j)

/-- The first distances, from the two coordinate inputs. -/
def distsOf (x0 : FVec Ideal S1x16x1024 .f32) (x1 : FVec Ideal S1x1x128x16 .f32) : FVec Ideal S128x1024 .f32 :=
  k0_pay15 (k0_pay14 (k0_pay6 x0) (k0_pay8 x1) (k0_pay9 x1) (k0_pay10 x1) (k0_pay11 x1) (k0_pay12 x1))

section
variable {x0 : FVec Ideal S1x16x1024 .f32} {x1 : FVec Ideal S1x1x128x16 .f32}
  {X : Fin 1024 → Fin 4 → Fin 3 → EReal} {chain : Fin 1024 → EReal} {res : Fin 128 → Fin 1024}

theorem Holds.table (h : Holds x0 x1 X chain res) (a : Fin 5) (k : Fin 3) (j : Fin 1024) :
    k0_pay6 (F := Ideal) x0 (ix2 (slot a k) j) = atom X a j k :=
  (table_atom x0 a k j).trans (atom_congr (h.cols j) a k)

theorem Holds.own (h : Holds x0 x1 X chain res) (a : Fin 5) (k : Fin 3) (r : Fin 128) :
    ownRows x1 (ix2 r (slot a k)) = atom X a (res r) k :=
  (ownRows_atom x1 a k r).trans (atom_congr (h.rows r) a k)

theorem Holds.dist (h : Holds x0 x1 X chain res) (r : Fin 128) (l : Fin 1024) :
    distsOf x0 x1 (ix2 r l) = gap X 1 1 (res r) l := by
  refine (dists_apply (k0_pay6 x0) x1 r l).trans ?_
  simp only [h.table, h.own]
  rfl

theorem Holds.pick (h : Holds x0 x1 X chain res) (r : Fin 128) (t : Fin 1024) :
    pick (rest (distsOf x0 x1) t.val) (ix2 r 0) = BitVec.ofNat 32 (near X (res r) t).val := by
  have hr := (rest_apply (distsOf x0 x1) r
    (fun l => by rw [h.dist]; exact (gap_isReal X h.real 1 1 _ _).ne_top) t).2
  rw [hr]
  simp only [h.dist]
  rfl

theorem Holds.gath (h : Holds x0 x1 X chain res) (a : Fin 5) (k : Fin 3) (r : Fin 128) (t : Fin 1024) :
    gath (k0_pay16 (k0_pay6 x0)) (k0_pay17 (k0_pay6 x0)) (rest (distsOf x0 x1) t.val) (ix2 r (slot a k))
      = atom X a (near X (res r) t) k := by
  have hr : IsReal (atom X a (near X (res r) t) k) := atom_isReal (h.real _) a k
  rw [gath_apply _ _ _ _ _ (h.pick r t) (by rw [h.table]; exact hr.ne_top) (by rw [h.table]; exact hr.ne_bot), h.table]

theorem Holds.gathChain (h : Holds x0 x1 X chain res) (r : Fin 128) (t : Fin 1024) :
    EdgeGraph.gath (k0_pay16 (k0_pay6 x0)) (k0_pay17 (k0_pay6 x0)) (rest (distsOf x0 x1) t.val) (ix2 r 15)
      = chain (near X (res r) t) := by
  have ht : k0_pay6 (F := Ideal) x0 (ix2 15 (near X (res r) t)) = chain (near X (res r) t) :=
    (table_chain x0 _).trans (h.colChain _)
  have hr : IsReal (chain (near X (res r) t)) := h.realChain _
  rw [gath_apply _ _ _ _ _ (h.pick r t) (by rw [ht]; exact hr.ne_top) (by rw [ht]; exact hr.ne_bot), ht]

/-- The row, among the thirty blocks of rows, of slot `t` of residue `r`. -/
abbrev line (t : Fin 30) (r : Fin 128) : Fin 3840 := ⟨t.val * 128 + r.val, by omega⟩

theorem picked_apply (d : FVec Ideal S128x1024 .f32) (t : Fin 30) (r : Fin 128) :
    picked d (ix2 (line t r) 0) = EdgeGraph.pick (rest d t.val) (ix2 r 0) := by
  refine concatenate_ofFn_apply (t := S3840x1) (s₁ := S128x1) 0 (fun t : Fin 30 => EdgeGraph.pick (rest d t.val)) _ rfl 128 rfl
    _ t ?_ _ ?_ ?_
  · show (t.val * 128 + r.val) / 128 = t.val; omega
  · show r.val = (t.val * 128 + r.val) % 128; omega
  · intro b hb; fin_cases b; exact absurd rfl hb; rfl

theorem pickedRow_apply (d : FVec Ideal S128x1024 .f32) (t : Fin 30) (r : Fin 128) :
    pickedRow d (ix2 r t) = EdgeGraph.pick (rest d t.val) (ix2 r 0) := by
  refine concatenate_ofFn_unit_apply (t := S128x30) (s₁ := S128x1) 1 (fun t : Fin 30 => EdgeGraph.pick (rest d t.val)) _ rfl rfl
    _ t rfl _ ?_
  intro b hb; fin_cases b; rfl; exact absurd rfl hb

theorem gathered_apply (tab : FVec Ideal S16x1024 .f32) (d : FVec Ideal S128x1024 .f32) (t : Fin 30) (r : Fin 128)
    (k : Fin 16) :
    gathered tab d (ix2 (line t r) k)
      = EdgeGraph.gath (k0_pay16 tab) (k0_pay17 tab) (rest d t.val) (ix2 r k) := by
  refine concatenate_ofFn_apply (t := S3840x16) (s₁ := S128x16) 0
    (fun t : Fin 30 => EdgeGraph.gath (k0_pay16 tab) (k0_pay17 tab) (rest d t.val)) _ rfl 128 rfl _ t ?_ _ ?_ ?_
  · show (t.val * 128 + r.val) / 128 = t.val; omega
  · show r.val = (t.val * 128 + r.val) % 128; omega
  · intro b hb; fin_cases b; exact absurd rfl hb; rfl

theorem again_apply (q : FVec Ideal S128x75 .f32) (t : Fin 30) (r : Fin 128) (k : Fin 75) :
    again q (ix2 (line t r) k) = q (ix2 r k) := by
  refine concatenate_replicate_apply (t := S3840x75) (s₁ := S128x75) 0 30 q _ rfl _ _ ?_ ?_
  · show r.val = (t.val * 128 + r.val) % 128; omega
  · intro b hb; fin_cases b; exact absurd rfl hb; rfl

end

end Cert.EdgeGraph
-- ==== Proof.Features.lean ====
module

public import proofs.«01_k».proof.Proof.Neighbours

/-! The distance features of one block: the pairs of atoms chosen by tables of zeros and ones, their distances, and the
sixteen basis functions of each. -/

@[expose] public section

set_option maxRecDepth 16384

noncomputable section

namespace Cert.EdgeGraph

open Idealize.ShloMosaic Cert.KernelIdeal Cert.KernelIdeal.Gen

/-- The column of coordinate `k` of pair `p`. -/
abbrev col (p : Fin 25) (k : Fin 3) : Fin 75 := ⟨k.val + 3 * p.val, by omega⟩

/-- The four tables of zeros and ones. -/
structure Tables (selA selB : Vec Ideal S16x75 .f32) (sum3 : Vec Ideal S75x25 .f32) (expand : Vec Ideal S25x400 .f32) :
    Prop where
  first : ∀ c p k, selA (ix2 c (col p k)) = if c = slot (firstOf p) k then (1 : EReal) else 0
  second : ∀ c p k, selB (ix2 c (col p k)) = if c = slot (secondOf p) k then (1 : EReal) else 0
  three : ∀ x p, sum3 (ix2 x p) = if x.val / 3 = p.val then (1 : EReal) else 0
  each : ∀ p e, expand (ix2 p e) = if e.val / 16 = p.val then (1 : EReal) else 0

/-- A sum against a column with a single one. -/
theorem sum_pick {n : Nat} (f : Fin n → EReal) (i : Fin n) :
    ∑ c, f c * (if c = i then (1 : EReal) else 0) = f i := by
  rw [Finset.sum_eq_single i]
  · simp
  · intro c _ hc; simp [hc]
  · simp

section
variable {x0 : FVec Ideal S1x16x1024 .f32} {x1 : FVec Ideal S1x1x128x16 .f32}
  {X : Fin 1024 → Fin 4 → Fin 3 → EReal} {chain : Fin 1024 → EReal} {res : Fin 128 → Fin 1024}
  {selA selB : Vec Ideal S16x75 .f32} {sum3 : Vec Ideal S75x25 .f32} {expand : Vec Ideal S25x400 .f32}

/-- What the rounds gather in this block. -/
def tableOf (x0 : FVec Ideal S1x16x1024 .f32) (x1 : FVec Ideal S1x1x128x16 .f32) : FVec Ideal S3840x16 .f32 :=
  gathered (k0_pay6 x0) (distsOf x0 x1)

theorem Holds.tableOf (h : Holds x0 x1 X chain res) (a : Fin 5) (k : Fin 3) (t : Fin 30) (r : Fin 128) :
    EdgeGraph.tableOf x0 x1 (ix2 (line t r) (slot a k)) = atom X a (near X (res r) ⟨t.val, by omega⟩) k :=
  (gathered_apply _ _ t r _).trans (h.gath a k r ⟨t.val, by omega⟩)

theorem own_matmul (q : FVec Ideal S128x16 .f32) (s : Vec Ideal S16x75 .f32) (r : Fin 128) (l : Fin 75) :
    matmul (F := Ideal) (φ₂ := .f32) dot_S128x16_S16x75_S128x75_1_0_0_1_n_n (some .fp32) q s (constant S128x75 .f32 0x00000000#32) (ix2 r l)
      = ∑ c : Fin 16, q (ix2 r c) * s (ix2 c l) := by
  pointwise []

theorem their_matmul (q : FVec Ideal S3840x16 .f32) (s : Vec Ideal S16x75 .f32) (r : Fin 3840) (l : Fin 75) :
    matmul (F := Ideal) (φ₂ := .f32) dot_S3840x16_S16x75_S3840x75_1_0_0_1_n_n (some .fp32) q s (constant S3840x75 .f32 0x00000000#32) (ix2 r l)
      = ∑ c : Fin 16, q (ix2 r c) * s (ix2 c l) := by
  pointwise []

theorem diffs_apply (q : FVec Ideal S128x16 .f32) (g : FVec Ideal S3840x16 .f32) (t : Fin 30) (r : Fin 128) (l : Fin 75) :
    diffs q g selA selB (ix2 (line t r) l)
      = (∑ c : Fin 16, q (ix2 r c) * selA (ix2 c l) - ∑ c : Fin 16, g (ix2 (line t r) c) * selB (ix2 c l))
        * (∑ c : Fin 16, q (ix2 r c) * selA (ix2 c l) - ∑ c : Fin 16, g (ix2 (line t r) c) * selB (ix2 c l)) := by
  rw [← own_matmul q selA r l, ← their_matmul g selB (line t r) l, ← again_apply (matmul (F := Ideal) (φ₂ := .f32) dot_S128x16_S16x75_S128x75_1_0_0_1_n_n (some .fp32) q selA
      (constant S128x75 .f32 0x00000000#32)) t r l]
  rfl

theorem Holds.diffs (h : Holds x0 x1 X chain res) (T : Tables selA selB sum3 expand) (t : Fin 30) (r : Fin 128)
    (p : Fin 25) (k : Fin 3) :
    EdgeGraph.diffs (ownRows x1) (EdgeGraph.tableOf x0 x1) selA selB (ix2 (line t r) (col p k))
      = (atom X (firstOf p) (res r) k - atom X (secondOf p) (near X (res r) ⟨t.val, by omega⟩) k)
        * (atom X (firstOf p) (res r) k - atom X (secondOf p) (near X (res r) ⟨t.val, by omega⟩) k) := by
  rw [diffs_apply]
  simp only [T.first, T.second, sum_pick, h.own, h.tableOf]

theorem pairs_apply (e : FVec Ideal S3840x75 .f32) (r : Fin 3840) (p : Fin 25) :
    pairs e sum3 (ix2 r p)
      = Ideal.sqrt (∑ x : Fin 75, e (ix2 r x) * sum3 (ix2 x p) + Ideal.ofBits .f32 0x358637BD#32) := by
  pointwise [pairs]

theorem sum_three (f : Fin 75 → EReal) (p : Fin 25) :
    ∑ x : Fin 75, f x * (if x.val / 3 = p.val then (1 : EReal) else 0) = ∑ k : Fin 3, f (col p k) := by
  rw [← (finProdFinEquiv (m := 25) (n := 3)).sum_comp, Fintype.sum_prod_type, Finset.sum_eq_single p]
  · refine Finset.sum_congr rfl fun k _ => ?_
    have : (k.val + 3 * p.val) / 3 = p.val := by omega
    simp [finProdFinEquiv, this]
  · intro p' _ hp
    refine Finset.sum_eq_zero fun k _ => ?_
    have : ¬ (k.val + 3 * p'.val) / 3 = p.val := by
      have := fun h => hp (Fin.ext h); omega
    simp [finProdFinEquiv, this]
  · simp

theorem Holds.pairs (h : Holds x0 x1 X chain res) (T : Tables selA selB sum3 expand) (t : Fin 30) (r : Fin 128)
    (p : Fin 25) :
    EdgeGraph.pairs (EdgeGraph.diffs (ownRows x1) (EdgeGraph.tableOf x0 x1) selA selB) sum3 (ix2 (line t r) p)
      = gap X (firstOf p) (secondOf p) (res r) (near X (res r) ⟨t.val, by omega⟩) := by
  rw [pairs_apply]
  simp only [T.three, sum_three, h.diffs T]
  rfl

theorem spread_apply (q : FVec Ideal S3840x25 .f32) (r : Fin 3840) (e : Fin 400) :
    spread q expand (ix2 r e)
      = ∑ x : Fin 25, q (ix2 r x) * expand (ix2 x e) + ∑ x : Fin 25, (q (ix2 r x) - q (ix2 r x)) * expand (ix2 x e) := by
  pointwise [spread]

theorem Holds.spread (h : Holds x0 x1 X chain res) (T : Tables selA selB sum3 expand) (t : Fin 30) (r : Fin 128)
    (e : Fin 400) :
    EdgeGraph.spread (EdgeGraph.pairs (EdgeGraph.diffs (ownRows x1) (EdgeGraph.tableOf x0 x1) selA selB) sum3) expand
        (ix2 (line t r) e)
      = gap X (firstOf ⟨e.val / 16, by omega⟩) (secondOf ⟨e.val / 16, by omega⟩) (res r)
          (near X (res r) ⟨t.val, by omega⟩) := by
  have hd : ∀ a b : Fin 5, ∀ i j, gap X a b i j - gap X a b i j = 0 := fun a b i j =>
    (gap_isReal X h.real a b i j).sub_self
  have he : ∀ x : Fin 25, (e.val / 16 = x.val) = (x = (⟨e.val / 16, by omega⟩ : Fin 25)) := fun x =>
    propext ⟨fun h => Fin.ext h.symm, fun h => (congrArg Fin.val h).symm⟩
  rw [spread_apply]
  simp only [T.each, h.pairs T, hd, zero_mul, Finset.sum_const_zero, add_zero, he]
  rw [sum_pick (fun x => gap X (firstOf x) (secondOf x) (res r) (near X (res r) ⟨t.val, by omega⟩))]

/-- The number, among its pair's sixteen, of basis function `e`, as the kernel counts it. -/
def turn (e : Fin 400) : BitVec 32 :=
  have n : BitVec 32 := Scalar.select (Scalar.cmpi .eq 16#32 0#32) 1#32 16#32
  have m : BitVec 32 := IntOp.remsi .vector (BitVec.ofNat 32 e.val) n
  Scalar.select (IntOp.andi (IntOp.xori (IntOp.cmpi .slt m 0#32) (Scalar.cmpi .slt n 0#32)) (IntOp.cmpi .ne m 0#32))
    (IntOp.addi m n) m

theorem turn_eq (e : Fin 400) : (turn e).toInt = (e.val % 16 : ℕ) := by
  revert e; decide +kernel

theorem step_eq : (Named.named κ "step" 0x3FAAAAAB#32 : Ideal .f32) = ((4 / 3 : ℝ) : EReal) :=
  by simp [Named.named, κ]

theorem two_eq : Ideal.ofBits .f32 0x40000000#32 = ((2 : ℝ) : EReal) := by
  simp [Ideal.ofBits, Ideal.ieee]
  rw [← EReal.coe_mul]
  norm_num

theorem centre_eq (e : Fin 400) :
    Ideal.ofBits .f32 0x40000000#32
        + (Named.named κ "step" 0x3FAAAAAB#32 : Ideal .f32) * (FloatOps.sitofp .f32 (turn e) : Ideal .f32)
      = ((2 + 4 / 3 * ((e.val % 16 : ℕ) : ℝ) : ℝ) : EReal) := by
  have hs : (FloatOps.sitofp .f32 (turn e) : Ideal .f32) = (((e.val % 16 : ℕ) : ℝ) : EReal) := by
    show (((turn e).toInt : ℝ) : EReal) = _
    rw [turn_eq]
    norm_cast
  rw [two_eq, step_eq, hs]
  norm_cast

theorem rbf_apply (q : FVec Ideal S3840x400 .f32) (r : Fin 3840) (e : Fin 400) :
    k0_pay152 (F := Ideal) q (Scalar.select (Scalar.cmpi .eq 16#32 0#32) 1#32 16#32) k0_pay151 (ix2 r e)
      = bump (q (ix2 r e)) ⟨e.val % 16, by omega⟩ := by
  pointwise [k0_pay152, k0_pay151]
  unfold bump
  rw [← centre_eq, ← zero_sub]
  rfl

end

end Cert.EdgeGraph
-- ==== Proof.Entry.lean ====
module

public import proofs.«01_k».proof.Proof.Features
public import proofs.«01_k».proof.Proof.Gen.KernelIdeal.Value
public import Idealize.ShloMosaic.Lib.Claim
public import Idealize.ShloMosaic.Lib.StableHlo.RunRead

/-! What the kernel's input arrays hold when the grid starts: the host's layout of the arguments, and the constant
tables. -/

@[expose] public section

set_option maxRecDepth 16384

noncomputable section

namespace Cert.EdgeGraph

open Idealize.ShloMosaic Idealize.ShloMosaic.TcCoe Cert.KernelIdeal Cert.KernelIdeal.Gen

/-- The coordinates and chain labels laid out along the residues. -/
def hostTable (x0 : Vec Ideal S2x1024x4x3 .f32) (x3 : IVec S2x1024 32) : Vec Ideal S2x16x1024 .f32 :=
  concatenate S2x16x1024 1
    [⟨S2x12x1024, shapeCast S2x12x1024 (transpose S2x4x3x1024 [0, 2, 3, 1] x0 transposes_S2x1024x4x3_S2x4x3x1024_0_2_3_1)
        shapeCasts_S2x4x3x1024_S2x12x1024⟩,
      ⟨S2x1x1024, broadcastInDim S2x1x1024 ![0, 2] bcast_S2x1024_S2x1x1024_0_2 (sitofp (F := Ideal) .f32 x3)⟩,
      ⟨S2x3x1024, broadcastInDim S2x3x1024 ![] bcast_S_S2x3x1024 (constant (F := Ideal) S_ .f32 0x00000000#32)⟩]
    concatenates_S2x12x1024_S2x1x1024_S2x3x1024_S2x16x1024_d1

/-- The same per block of 128 residues, one row per residue. -/
def hostRows (t : Vec Ideal S2x16x1024 .f32) : Vec Ideal S2x8x128x16 .f32 :=
  transpose S2x8x128x16 [0, 2, 3, 1] (shapeCast S2x16x8x128 t shapeCasts_S2x16x1024_S2x16x8x128)
    transposes_S2x16x8x128_S2x8x128x16_0_2_3_1

variable (m : (ℓ : Loc nD τ sig) → Buf (Elt Ideal) ℓ) (c : Dev nD)

/-- The three parts of the table after the first ten host operations. -/
theorem upto_coords : StableHlo.upto hostOps0 (fun b => m (c, b)) 10 (Proc.tc.devRef main_v1)
    = (shapeCast S2x12x1024 (transpose S2x4x3x1024 [0, 2, 3, 1] (m ((c : Thread nD τ).loc main_arg0))
        transposes_S2x1024x4x3_S2x4x3x1024_0_2_3_1) shapeCasts_S2x4x3x1024_S2x12x1024 : Vec Ideal S2x12x1024 .f32) := by
  after_reads_simp
  rfl

theorem upto_labels : StableHlo.upto hostOps0 (fun b => m (c, b)) 10 (Proc.tc.devRef main_v3)
    = (broadcastInDim S2x1x1024 ![0, 2] bcast_S2x1024_S2x1x1024_0_2 (sitofp (F := Ideal) .f32 (m ((c : Thread nD τ).loc main_arg3)))
        : Vec Ideal S2x1x1024 .f32) := by
  after_reads_simp

theorem upto_rest : StableHlo.upto hostOps0 (fun b => m (c, b)) 10 (Proc.tc.devRef main_v4)
    = (broadcastInDim S2x3x1024 ![] bcast_S_S2x3x1024 (constant (F := Ideal) S_ .f32 0x00000000#32)
        : Vec Ideal S2x3x1024 .f32) := by
  after_reads_simp

theorem V_table : V m c main_v5 = hostTable (m ((c : Thread nD τ).loc main_arg0)) (m ((c : Thread nD τ).loc main_arg3)) := by
  unfold V hostTable
  rw [← upto_coords m c, ← upto_labels m c, ← upto_rest m c]
  after_reads_simp
  rfl

theorem V_rows : V m c main_v7
    = hostRows (hostTable (m ((c : Thread nD τ).loc main_arg0)) (m ((c : Thread nD τ).loc main_arg3))) := by
  unfold V hostRows hostTable
  rw [← upto_coords m c, ← upto_labels m c, ← upto_rest m c]
  after_reads_simp
  rfl

theorem V_posW : V m c main_v8
    = (transpose S66x16 [1, 0] (m ((c : Thread nD τ).loc main_arg4)) transposes_S16x66_S66x16_1_0 : Vec Ideal S66x16 .f32) := by
  entry_read
  rfl

theorem V_posB : V m c main_v9
    = (shapeCast S1x16 (m ((c : Thread nD τ).loc main_arg5)) shapeCasts_S16_S1x16 : Vec Ideal S1x16 .f32) := by
  entry_read
  rfl

theorem V_lnW : V m c main_v10
    = (shapeCast S1x128 (m ((c : Thread nD τ).loc main_arg7)) shapeCasts_S128_S1x128 : Vec Ideal S1x128 .f32) := by
  entry_read
  rfl

theorem V_lnB : V m c main_v11
    = (shapeCast S1x128 (m ((c : Thread nD τ).loc main_arg8)) shapeCasts_S128_S1x128 : Vec Ideal S1x128 .f32) := by
  entry_read
  rfl

theorem V_first : V m c main_cst = fun i => (FloatOps.ofBits .f32 (lit0 (S16x75.rowMajor i)) : Ideal .f32) := by
  entry_read
  rfl

theorem V_second : V m c main_cst_0 = fun i => (FloatOps.ofBits .f32 (lit1 (S16x75.rowMajor i)) : Ideal .f32) := by
  entry_read
  rfl

theorem V_three : V m c main_cst_1 = fun i => (FloatOps.ofBits .f32 (lit2 (S75x25.rowMajor i)) : Ideal .f32) := by
  entry_read
  rfl

theorem V_each : V m c main_cst_2 = fun i => (FloatOps.ofBits .f32 (lit3 (S25x400.rowMajor i)) : Ideal .f32) := by
  entry_read
  rfl

theorem hostTable_apply (x0 : Vec Ideal S2x1024x4x3 .f32) (x3 : IVec S2x1024 32) (b : Fin 2) (j : Fin 1024) (a : Fin 4)
    (k : Fin 3) : hostTable x0 x3 (ix3 b ⟨3 * a.val + k.val, by omega⟩ j) = x0 (ix4 b j a k) := by
  fin_cases a <;> fin_cases k <;> pointwise [hostTable]

theorem hostTable_chain (x0 : Vec Ideal S2x1024x4x3 .f32) (x3 : IVec S2x1024 32) (b : Fin 2) (j : Fin 1024) :
    hostTable x0 x3 (ix3 b 12 j) = (FloatOps.sitofp .f32 (x3 (ix2 b j)) : Ideal .f32) := by
  pointwise [hostTable]

theorem hostRows_apply (t : Vec Ideal S2x16x1024 .f32) (b : Fin 2) (n : Fin 8) (r : Fin 128) (k : Fin 16) :
    hostRows t (ix4 b n r k) = t (ix3 b k ⟨n.val * 128 + r.val, by omega⟩) := by
  pointwise [hostRows]

end Cert.EdgeGraph
-- ==== Proof.Tail.lean ====
module

public import proofs.«01_k».proof.Proof.Features

/-! The positional features and the normalised projection of one block. -/

@[expose] public section

set_option maxRecDepth 16384

noncomputable section

namespace Cert.EdgeGraph

open Idealize.ShloMosaic Cert.KernelIdeal Cert.KernelIdeal.Gen

section
variable {F : FTy → Type} [FloatOps F] [Named F]

/-- The positions of the block's own residues. -/
def counts (arg1 : BitVec 32) : IVec S128x1 32 :=
  addi (broadcast S128x1 (Scalar.muli arg1 128#32)) (iota .tc S128x1 32 [0] iota_S128x1_d0_w32)

/-- A column of numbers once per slot. -/
def againCol {α : Type} (q : S128x1.Idx → α) : S3840x1.Idx → α :=
  concatenate S3840x1 0 (List.replicate 30 ⟨S128x1, q⟩) concatenates_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S3840x1_d0

/-- Where the class of each pair of residues equals the column's number. -/
def mask (v712 : IVec S3840x1 32) (v653 : FVec F S3840x16 .f32) (v654 : IVec S3840x1 32) (v659 : FVec F S3840x1 .f32) :
    IVec S3840x66 1 :=
  have v713 : IVec S3840x1 32 := subi v712 v654
  have v714 : FVec F S3840x1 .f32 := extractStridedSlice S3840x1 ![0, 15] v653 slices_S3840x16_o0_15_S3840x1
  have v715 : FVec F S3840x1 .f32 := subf v659 v714
  have v716 : FVec F S3840x1 .f32 := absf v715
  have cst_215 : F .f32 := Scalar.ofBits .f32 0x3F000000#32
  have v717 : FVec F S3840x1 .f32 := broadcast S3840x1 cst_215
  have v718 : IVec S3840x1 1 := cmpf .olt v716 v717
  have v719 : IVec S3840x1 32 := broadcast S3840x1 32#32
  have v720 : IVec S3840x1 32 := addi v713 v719
  have v721 : IVec S3840x1 32 := broadcast S3840x1 0#32
  have v722 : IVec S3840x1 32 := maxsi v721 v720
  have v723 : IVec S3840x1 32 := broadcast S3840x1 64#32
  have v724 : IVec S3840x1 32 := minsi v723 v722
  have v725 : IVec S3840x1 32 := broadcast S3840x1 65#32
  have v726 : IVec S3840x1 32 := select v718 v724 v725
  have v727 : IVec S3840x66 32 := iota .tc S3840x66 32 [1] iota_S3840x66_d1_w32
  have v728 : IVec S3840x66 32 := broadcastTo S3840x66 v726 broadcasts_S3840x1_S3840x66
  have v729 : IVec S3840x66 1 := cmpi .eq v728 v727
  v729

/-- The projection of both kinds of features. -/
def proj (v707 : FVec F S3840x400 .f32) (v729 : IVec S3840x66 1) (v732 : Vec F S66x16 .f32) (v735 : Vec F S1x16 .f32)
    (v739 v741 : Vec F S128x416 .f32) : FVec F S3840x128 .f32 :=
  have v730 : IVec S3840x66 32 := extui 32 v729 natLt_1_32
  have v731 : FVec F S3840x66 .f32 := sitofp .f32 v730
  have v733 : FVec F S66x16 .f32 := shapeCast S66x16 v732 shapeCasts_S66x16_S66x16
  have cst_219 : FVec F S3840x16 .f32 := constant S3840x16 .f32 0x00000000#32
  have v734 : FVec F S3840x16 .f32 := matmul dot_S3840x66_S66x16_S3840x16_1_0_0_1_n_n (some .fp32) v731 v733 cst_219
  have v736 : FVec F S1x16 .f32 := shapeCast S1x16 v735 shapeCasts_S1x16_S1x16
  have v737 : FVec F S3840x16 .f32 := broadcastTo S3840x16 v736 broadcasts_S1x16_S3840x16
  have v738 : FVec F S3840x16 .f32 := addf v734 v737
  have v740 : FVec F S128x16 .f32 := extractStridedSlice S128x16 ![0, 0] v739 slices_S128x416_o0_0_S128x16
  have v742 : FVec F S128x400 .f32 := extractStridedSlice S128x400 ![0, 16] v741 slices_S128x416_o0_16_S128x400
  have v743 : FVec F S128x400 .bf16 := truncf .bf16 v742 bitsLt_bf16_f32
  have v744 : FVec F S128x400 .f32 := extf .f32 v743 bitsLt_bf16_f32
  have v745 : FVec F S128x400 .f32 := subf v742 v744
  have v746 : FVec F S128x400 .bf16 := truncf .bf16 v745 bitsLt_bf16_f32
  have v747 : FVec F S3840x400 .bf16 := truncf .bf16 v707 bitsLt_bf16_f32
  have cst_226 : FVec F S3840x128 .f32 := constant S3840x128 .f32 0x00000000#32
  have v748 : FVec F S3840x128 .f32 := matmul dot_S3840x16_S128x16_S3840x128_1_1_0_0_n_n (some .fp32) v738 v740 cst_226
  have cst_227 : FVec F S3840x128 .f32 := constant S3840x128 .f32 0x00000000#32
  have v749 : FVec F S3840x128 .f32 := matmul dot_S3840x400_S128x400_S3840x128_1_1_0_0_n_n none v747 v743 cst_227
  have v750 : FVec F S3840x128 .f32 := addf v748 v749
  have cst_228 : FVec F S3840x128 .f32 := constant S3840x128 .f32 0x00000000#32
  have v751 : FVec F S3840x128 .f32 := matmul dot_S3840x400_S128x400_S3840x128_1_1_0_0_n_n none v747 v746 cst_228
  have v752 : FVec F S3840x128 .f32 := addf v750 v751
  v752

/-- Each row less its mean, over the root of its variance. -/
def normed (v752 : FVec F S3840x128 .f32) : FVec F S3840x128 .f32 :=
  have v753 : FVec F S3840 .f32 := multiReduction .add [1] S3840 v752 0x00000000#32 reduces_S3840x128_S3840 (.inl rfl) rfl
  have v754 : FVec F S3840x1 .f32 := shapeCast S3840x1 v753 shapeCasts_S3840_S3840x1
  have cst_230 : F .f32 := Scalar.ofBits .f32 0x43000000#32
  have v755 : FVec F S3840x1 .f32 := broadcast S3840x1 cst_230
  have v756 : FVec F S3840x1 .f32 := divf v754 v755
  have v757 : FVec F S3840x128 .f32 := broadcastTo S3840x128 v756 broadcasts_S3840x1_S3840x128
  have v758 : FVec F S3840x128 .f32 := subf v752 v757
  have v759 : FVec F S3840x128 .f32 := mulf v758 v758
  have v760 : FVec F S3840 .f32 := multiReduction .add [1] S3840 v759 0x00000000#32 reduces_S3840x128_S3840 (.inl rfl) rfl
  have v761 : FVec F S3840x1 .f32 := shapeCast S3840x1 v760 shapeCasts_S3840_S3840x1
  have cst_232 : F .f32 := Scalar.ofBits .f32 0x43000000#32
  have v762 : FVec F S3840x1 .f32 := broadcast S3840x1 cst_232
  have v763 : FVec F S3840x1 .f32 := divf v761 v762
  have cst_233 : F .f32 := Scalar.ofBits .f32 0x3727C5AC#32
  have v764 : FVec F S3840x1 .f32 := broadcast S3840x1 cst_233
  have v765 : FVec F S3840x1 .f32 := addf v763 v764
  have v766 : FVec F S3840x1 .f32 := sqrt v765
  have v767 : FVec F S3840x128 .f32 := broadcastTo S3840x128 v766 broadcasts_S3840x1_S3840x128
  have v768 : FVec F S3840x128 .f32 := divf v758 v767
  v768

theorem pay149_eq (v : FVec F S128x16 .f32) :
    k0_pay149 v = againCol (extractStridedSlice S128x1 ![0, 15] v slices_S128x16_o0_15_S128x1) := rfl

theorem pay153_eq (arg1 : BitVec 32) (g : FVec F S3840x16 .f32) (p : IVec S3840x1 32) (c : FVec F S3840x1 .f32) :
    k0_pay153 arg1 g p c = mask (againCol (counts arg1)) g p c := rfl

theorem pay154_eq (v707 : FVec F S3840x400 .f32) (v729 : IVec S3840x66 1) (v732 : Vec F S66x16 .f32)
    (v735 : Vec F S1x16 .f32) (v739 v741 : Vec F S128x416 .f32) :
    k0_pay154 v707 v729 v732 v735 v739 v741 = normed (proj v707 v729 v732 v735 v739 v741) := rfl

end

theorem againCol_apply {α : Type} (q : S128x1.Idx → α) (t : Fin 30) (r : Fin 128) :
    againCol q (ix2 (line t r) 0) = q (ix2 r 0) := by
  refine concatenate_replicate_apply (t := S3840x1) (s₁ := S128x1) 0 30 q _ rfl _ _ ?_ ?_
  · show r.val = (t.val * 128 + r.val) % 128; omega
  · intro b hb; fin_cases b; exact absurd rfl hb; rfl

theorem counts_apply (a : BitVec 32) (r : Fin 128) : counts a (ix2 r 0) = a * 128#32 + BitVec.ofNat 32 r.val := by
  pointwise [counts]
  rfl

/-- Two integers as reals are nearer than one half exactly when they are equal. -/
theorem near_half (a b : BitVec 32) :
    ((FloatOps.absf ((FloatOps.sitofp .f32 a : Ideal .f32) - (FloatOps.sitofp .f32 b : Ideal .f32) : Ideal .f32) : EReal)
      < Ideal.ofBits .f32 0x3F000000#32) ↔ a = b := by
  have hh : Ideal.ofBits .f32 0x3F000000#32 = ((1 / 2 : ℝ) : EReal) := by
    simp [Ideal.ofBits, Ideal.ieee]
    rw [← EReal.coe_mul]
    norm_num
  have ha : (FloatOps.absf ((FloatOps.sitofp .f32 a : Ideal .f32) - (FloatOps.sitofp .f32 b : Ideal .f32) : Ideal .f32) : EReal)
      = ((|(a.toInt : ℝ) - (b.toInt : ℝ)| : ℝ) : EReal) := by
    show max (((a.toInt : ℝ) : EReal) - ((b.toInt : ℝ) : EReal)) (-(((a.toInt : ℝ) : EReal) - ((b.toInt : ℝ) : EReal))) = _
    rw [← EReal.coe_sub, ← EReal.coe_neg, abs_eq_max_neg]
    exact (EReal.coe_strictMono.monotone.map_max).symm
  rw [hh, ha, EReal.coe_lt_coe_iff]
  constructor
  · intro h
    refine BitVec.eq_of_toInt_eq (sub_eq_zero.1 (Int.abs_lt_one_iff.1 ?_))
    have h2 : ((|a.toInt - b.toInt| : ℤ) : ℝ) < (1 : ℤ) := by push_cast; linarith
    exact_mod_cast h2
  · rintro rfl
    norm_num

theorem mask_apply (n : IVec S3840x1 32) (g : FVec Ideal S3840x16 .f32) (p : IVec S3840x1 32)
    (c : FVec Ideal S3840x1 .f32) (r : Fin 3840) (q : Fin 66) :
    mask n g p c (ix2 r q) = IntOp.cmpi .eq
      (if (FloatOps.absf (c (ix2 r 0) - g (ix2 r 15) : Ideal .f32) : EReal) < Ideal.ofBits .f32 0x3F000000#32 then
        IntOp.minsi 64#32 (IntOp.maxsi 0#32 (IntOp.addi (IntOp.subi (n (ix2 r 0)) (p (ix2 r 0))) 32#32))
      else 65#32) (BitVec.ofNat 32 q.val) := by
  pointwise [mask]

/-- The class of a pair as a row of zeros and a one. -/
def oneHot (w : BitVec 32) (q : Fin 66) : EReal := if w = BitVec.ofNat 32 q.val then 1 else 0

theorem oneHot_of_mask (w : BitVec 32) (q : Fin 66) :
    (FloatOps.sitofp .f32 (BitVec.setWidth 32 (IntOp.cmpi .eq w (BitVec.ofNat 32 q.val))) : Ideal .f32) = oneHot w q := by
  unfold oneHot
  show (((BitVec.setWidth 32 (BitVec.ofBool (w == BitVec.ofNat 32 q.val))).toInt : ℝ) : EReal) = _
  by_cases h : w = BitVec.ofNat 32 q.val
  · simp [h]
  · simp [h, beq_eq_false_iff_ne.2 h]

theorem proj_apply (s : FVec Ideal S3840x400 .f32) (m : IVec S3840x66 1) (W : Vec Ideal S66x16 .f32)
    (b : Vec Ideal S1x16 .f32) (E : Vec Ideal S128x416 .f32) (r : Fin 3840) (f : Fin 128) :
    proj (F := Ideal) s m W b E E (ix2 r f)
      = (∑ x : Fin 16,
          (∑ q : Fin 66, (FloatOps.sitofp .f32 (BitVec.setWidth 32 (m (ix2 r q))) : Ideal .f32) * W (ix2 q x) + b (ix2 0 x))
            * E (ix2 f ⟨x.val, by omega⟩)
        + ∑ x : Fin 400, s (ix2 r x) * E (ix2 f ⟨16 + x.val, by omega⟩))
        + ∑ x : Fin 400, s (ix2 r x) * (E (ix2 f ⟨16 + x.val, by omega⟩) - E (ix2 f ⟨16 + x.val, by omega⟩)) := by
  pointwise [proj]

theorem normed_apply (y : FVec Ideal S3840x128 .f32) (r : Fin 3840) (f : Fin 128) :
    normed (F := Ideal) y (ix2 r f)
      = Ideal.div (y (ix2 r f) - mean (fun f => y (ix2 r f)))
          (Ideal.sqrt (mean (fun f => (y (ix2 r f) - mean (fun f => y (ix2 r f))) * (y (ix2 r f) - mean (fun f => y (ix2 r f))))
            + Ideal.ofBits .f32 0x3727C5AC#32)) := by
  pointwise [normed]
  rfl

theorem pay156_apply (y : FVec Ideal S3840x128 .f32) (w b : Vec Ideal S1x128 .f32) (r : Fin 3840) (f : Fin 128) :
    k0_pay156 (F := Ideal) y (k0_pay155 w) b (ix2 r f) = y (ix2 r f) * w (ix2 0 f) + b (ix2 0 f) := by
  pointwise [k0_pay156, k0_pay155]

/-- Layer normalisation of one row of the projection. -/
theorem norm_rows_apply (y : FVec Ideal S3840x128 .f32) (w b : Vec Ideal S1x128 .f32) (r : Fin 3840) (f : Fin 128) :
    k0_pay156 (F := Ideal) (normed y) (k0_pay155 w) b (ix2 r f)
      = norm (fun f => y (ix2 r f)) (fun f => w (ix2 0 f)) (fun f => b (ix2 0 f)) f := by
  rw [pay156_apply, normed_apply]
  rfl

end Cert.EdgeGraph
-- ==== Proof.Block.lean ====
module

public import proofs.«01_k».proof.Proof.Tail

/-! What one block of the kernel computes, row by row. -/

@[expose] public section

set_option maxRecDepth 16384

noncomputable section

namespace Cert.EdgeGraph

open Idealize.ShloMosaic Cert.KernelIdeal Cert.KernelIdeal.Gen

/-- Every distance feature is a positive real. -/
theorem bump_pos {d : EReal} (hd : IsReal d) (m : Fin 16) : ∃ r : ℝ, 0 < r ∧ bump d m = r := by
  obtain ⟨d, rfl⟩ := hd
  have hc : Ideal.ofBits .f32 0x3FA00000#32 = ((5 / 4 : ℝ) : EReal) := by
    simp [Ideal.ofBits, Ideal.ieee]
    rw [← EReal.coe_mul]
    norm_num
  have hq : ∀ x : ℝ, Ideal.div (x : EReal) ((5 / 4 : ℝ) : EReal) = ((x * (5 / 4)⁻¹ : ℝ) : EReal) := fun x => by
    have h : ((5 / 4 : ℝ) : EReal) ≠ 0 := by
      rw [← EReal.coe_zero, Ne, EReal.coe_eq_coe_iff]
      norm_num
    rw [Ideal.div, if_neg h, ← EReal.coe_inv, ← EReal.coe_mul]
  unfold bump
  rw [hc, ← EReal.coe_sub, hq, ← EReal.coe_mul, ← EReal.coe_neg, Ideal.exp_coe]
  exact ⟨_, Real.exp_pos _, rfl⟩

/-- A split weight's remainder leaves the normalised row alone: it is zero for real weights, and where a weight is
infinite the row is infinite without it too. -/
theorem norm_project (E : Fin 128 → Fin 416 → EReal) (p : Fin 16 → EReal) (s : Fin 400 → EReal) (g b : Fin 128 → EReal)
    (hs : ∀ e, ∃ r : ℝ, 0 < r ∧ s e = r) (f : Fin 128) :
    norm (fun f => project E p s f
        + ∑ e : Fin 400, s e * (E f ⟨16 + e.val, by omega⟩ - E f ⟨16 + e.val, by omega⟩)) g b f
      = norm (project E p s) g b f := by
  by_cases h : ∀ f (e : Fin 400), IsReal (E f ⟨16 + e.val, by omega⟩)
  · congr 1
    funext f
    rw [Finset.sum_eq_zero (fun e _ => by rw [(h f e).sub_self, mul_zero]), add_zero]
  · push Not at h
    obtain ⟨f₀, e₀, h⟩ := h
    have hp : ¬ IsReal (project E p s f₀) := by
      intro hp
      have h1 := (isReal_sum_iff _ _).1 (isReal_add_iff.1 hp).2 e₀ (Finset.mem_univ _)
      obtain ⟨r, hr, he⟩ := hs e₀
      rw [he] at h1
      rw [isReal_iff, not_and_or, not_not, not_not] at h
      rcases h with h | h <;> rw [h] at h1
      · exact h1.ne_top (EReal.coe_mul_top_of_pos hr)
      · exact h1.ne_bot (EReal.coe_mul_bot_of_pos hr)
    rw [norm_of_infinite _ g b f₀ hp, norm_of_infinite _ g b f₀ fun h => hp (isReal_add_iff.1 h).1]

section
variable {x0 : FVec Ideal S1x16x1024 .f32} {x1 : FVec Ideal S1x1x128x16 .f32}
  {X : Fin 1024 → Fin 4 → Fin 3 → EReal} {C : Fin 1024 → BitVec 32} {res : Fin 128 → Fin 1024}
  {selA selB : Vec Ideal S16x75 .f32} {sum3 : Vec Ideal S75x25 .f32} {expand : Vec Ideal S25x400 .f32}

/-- The chain labels as reals. -/
def labels (C : Fin 1024 → BitVec 32) (j : Fin 1024) : EReal := (FloatOps.sitofp .f32 (C j) : Ideal .f32)

/-- The kernel's distance features are those of the nearest residues. -/
theorem Holds.radial (h : Holds x0 x1 X (labels C) res) (T : Tables selA selB sum3 expand) (t : Fin 30) (r : Fin 128)
    (e : Fin 400) :
    k0_pay152 (F := Ideal) (EdgeGraph.spread (EdgeGraph.pairs (EdgeGraph.diffs (ownRows x1) (EdgeGraph.tableOf x0 x1)
        selA selB) sum3) expand) (Scalar.select (Scalar.cmpi .eq 16#32 0#32) 1#32 16#32) k0_pay151 (ix2 (line t r) e)
      = EdgeGraph.radial X (res r) (near X (res r) ⟨t.val, by omega⟩) e := by
  rw [rbf_apply, h.spread T]
  rfl

/-- The kernel's mask of classes is the one-hot row of the pair's class. -/
theorem Holds.mask (h : Holds x0 x1 X (labels C) res) (a : BitVec 32)
    (ha : ∀ r, a * 128#32 + BitVec.ofNat 32 r.val = BitVec.ofNat 32 (res r).val) (t : Fin 30) (r : Fin 128) (q : Fin 66) :
    (FloatOps.sitofp .f32 (BitVec.setWidth 32 (k0_pay153 a (EdgeGraph.tableOf x0 x1) (picked (distsOf x0 x1))
        (k0_pay149 (ownRows x1)) (ix2 (line t r) q))) : Ideal .f32)
      = oneHot (place C (res r) (near X (res r) ⟨t.val, by omega⟩)) q := by
  have h1 : againCol (extractStridedSlice S128x1 ![0, 15] (ownRows x1) slices_S128x16_o0_15_S128x1) (ix2 (line t r) 0)
      = labels C (res r) := by
    rw [againCol_apply]
    refine Eq.trans ?_ ((ownRows_chain x1 r).trans (h.rowChain r))
    pointwise []
  have h2 : EdgeGraph.tableOf x0 x1 (ix2 (line t r) 15) = labels C (near X (res r) ⟨t.val, by omega⟩) :=
    (gathered_apply _ _ t r _).trans (h.gathChain r ⟨t.val, by omega⟩)
  have h3 : picked (distsOf x0 x1) (ix2 (line t r) 0) = BitVec.ofNat 32 (near X (res r) ⟨t.val, by omega⟩).val :=
    (picked_apply _ t r).trans (h.pick r ⟨t.val, by omega⟩)
  rw [pay149_eq, pay153_eq, mask_apply, h1, h2, h3, againCol_apply, counts_apply, ha, oneHot_of_mask]
  congr 1
  unfold place
  exact if_congr (near_half _ _) rfl rfl

/-- The projected row of one pair of residues, with the remainder of its split weights. -/
theorem Holds.proj (h : Holds x0 x1 X (labels C) res) (T : Tables selA selB sum3 expand) (a : BitVec 32)
    (ha : ∀ r, a * 128#32 + BitVec.ofNat 32 r.val = BitVec.ofNat 32 (res r).val)
    (x6 : Vec Ideal S66x16 .f32) (x7 : Vec Ideal S1x16 .f32) (x8 : Vec Ideal S128x416 .f32)
    (W : Fin 16 → Fin 66 → EReal) (bias : Fin 16 → EReal) (E : Fin 128 → Fin 416 → EReal)
    (h6 : ∀ q c, x6 (ix2 q c) = W c q) (h7 : ∀ c, x7 (ix2 0 c) = bias c) (h8 : ∀ f e, x8 (ix2 f e) = E f e)
    (t : Fin 30) (r : Fin 128) (f : Fin 128) :
    EdgeGraph.proj (F := Ideal)
        (k0_pay152 (EdgeGraph.spread (EdgeGraph.pairs (EdgeGraph.diffs (ownRows x1) (EdgeGraph.tableOf x0 x1)
          selA selB) sum3) expand) (Scalar.select (Scalar.cmpi .eq 16#32 0#32) 1#32 16#32) k0_pay151)
        (k0_pay153 a (EdgeGraph.tableOf x0 x1) (picked (distsOf x0 x1)) (k0_pay149 (ownRows x1))) x6 x7 x8 x8
        (ix2 (line t r) f)
      = project E (positional C W bias (res r) (near X (res r) ⟨t.val, by omega⟩))
          (EdgeGraph.radial X (res r) (near X (res r) ⟨t.val, by omega⟩)) f
        + ∑ e : Fin 400, EdgeGraph.radial X (res r) (near X (res r) ⟨t.val, by omega⟩) e
            * (E f ⟨16 + e.val, by omega⟩ - E f ⟨16 + e.val, by omega⟩) := by
  rw [proj_apply]
  simp only [h.radial T, h.mask a ha, h6, h7, h8]
  rfl

/-- The rows that a block writes. -/
theorem Holds.rows_eq (h : Holds x0 x1 X (labels C) res) (T : Tables selA selB sum3 expand) (a : BitVec 32)
    (ha : ∀ r, a * 128#32 + BitVec.ofNat 32 r.val = BitVec.ofNat 32 (res r).val)
    (x6 : Vec Ideal S66x16 .f32) (x7 : Vec Ideal S1x16 .f32) (x8 : Vec Ideal S128x416 .f32) (x9 x10 : Vec Ideal S1x128 .f32)
    (W : Fin 16 → Fin 66 → EReal) (bias : Fin 16 → EReal) (E : Fin 128 → Fin 416 → EReal) (g b : Fin 128 → EReal)
    (h6 : ∀ q c, x6 (ix2 q c) = W c q) (h7 : ∀ c, x7 (ix2 0 c) = bias c) (h8 : ∀ f e, x8 (ix2 f e) = E f e)
    (h9 : ∀ f, x9 (ix2 0 f) = g f) (h10 : ∀ f, x10 (ix2 0 f) = b f) (t : Fin 30) (r : Fin 128) (f : Fin 128) :
    k0_pay156 (F := Ideal) (k0_pay154
        (k0_pay152 (EdgeGraph.spread (EdgeGraph.pairs (EdgeGraph.diffs (ownRows x1) (EdgeGraph.tableOf x0 x1)
          selA selB) sum3) expand) (Scalar.select (Scalar.cmpi .eq 16#32 0#32) 1#32 16#32) k0_pay151)
        (k0_pay153 a (EdgeGraph.tableOf x0 x1) (picked (distsOf x0 x1)) (k0_pay149 (ownRows x1))) x6 x7 x8 x8)
        (k0_pay155 x9) x10 (ix2 (line t r) f)
      = norm (project E (positional C W bias (res r) (near X (res r) ⟨t.val, by omega⟩))
          (EdgeGraph.radial X (res r) (near X (res r) ⟨t.val, by omega⟩))) g b f := by
  rw [pay154_eq, norm_rows_apply]
  simp only [h.proj T a ha x6 x7 x8 W bias E h6 h7 h8, h9, h10]
  exact norm_project E _ _ g b (fun e => bump_pos (gap_isReal X h.real _ _ _ _) _) f

end

end Cert.EdgeGraph
-- ==== Proof.Stores.lean ====
module

public import proofs.«01_k».proof.Proof.Block
public import Idealize.ShloMosaic.Lib.Pipeline.ValueKit.Tiles

/-! The two buffers that a block leaves: thirty slabs of rows, and the picks. -/

@[expose] public section

set_option maxRecDepth 16384

noncomputable section

namespace Cert.EdgeGraph

open Idealize.ShloMosaic Cert.KernelIdeal Cert.KernelIdeal.Gen

section
variable {F : FTy → Type} [FloatOps F] [Named F]

theorem slab_inb (k : Fin 30) (a : Fin 4) :
    (![0, 0, k.val, 0] : Fin 4 → Nat) a + S1x128x1x128.size a ≤ S1x128x30x128.size a := by
  fin_cases a
  · show 0 + 1 ≤ 1; omega
  · show 0 + 128 ≤ 128; omega
  · show k.val + 1 ≤ 30; omega
  · show 0 + 128 ≤ 128; omega

/-- The part of the buffer that holds slot `k`. -/
abbrev slab (k : Fin 30) : Rect S1x128x30x128 :=
  Rect.unit (s := S1x128x30x128) ![0, 0, k.val, 0] S1x128x1x128.size (slab_inb k)

theorem rows_slice (k : Fin 30) : S3840x128.Slices ![128 * k.val, 0] S128x128 := by
  refine ⟨rfl, fun a => ?_⟩
  fin_cases a
  · show 128 * k.val + 128 ≤ 3840; omega
  · show 0 + 128 ≤ 128; omega

/-- The rows of slot `k`. -/
def rowsOf (y : FVec F S3840x128 .f32) (k : Fin 30) : FVec F S1x128x1x128 .f32 :=
  shapeCast S1x128x1x128 (extractStridedSlice S128x128 ![128 * k.val, 0] y (rows_slice k))
    shapeCasts_S128x128_S1x128x1x128

variable (i : grid0.Coords) (x0 : Vec F S1x16x1024 .f32) (x1 : Vec F S1x1x128x16 .f32) (x2 : Vec F S16x75 .f32)
  (x3 : Vec F S16x75 .f32) (x4 : Vec F S75x25 .f32) (x5 : Vec F S25x400 .f32) (x6 : Vec F S66x16 .f32)
  (x7 : Vec F S1x16 .f32) (x8 : Vec F S128x416 .f32) (x9 : Vec F S1x128 .f32) (x10 : Vec F S1x128 .f32)

theorem out0_11_eq :
    out0_11 i x0 x1 x2 x3 x4 x5 x6 x7 x8 x9 x10
      = View.canon (List.ofFn fun k : Fin 30 =>
          ⟨slab k.rev, rowsOf (k0_pay281 i x0 x1 x2 x3 x4 x5 x6 x7 x8 x9 x10) k.rev⟩) := rfl

end

theorem rowsOf_apply (y : FVec Ideal S3840x128 .f32) (t : Fin 30) (r : Fin 128) (f : Fin 128) :
    rowsOf y t (ix4 0 r 0 f) = y (ix2 (line t r) f) := by
  pointwise [rowsOf]
  congr 2
  exact Fin.ext (by show 128 * t.val + r.val = t.val * 128 + r.val; omega)

theorem canon_rows (y : FVec Ideal S3840x128 .f32) (t : Fin 30) (r : Fin 128) (f : Fin 128) :
    View.canon (Val := Elt Ideal) (e := .f32) (List.ofFn fun k : Fin 30 => ⟨slab k.rev, rowsOf y k.rev⟩) (ix4 0 r t f)
      = y (ix2 (line t r) f) := by
  refine View.canon_ofFn_unit_eq_of_forall (Val := Elt Ideal) (e := .f32) (S := S1x128x30x128)
    (fun k : Fin 30 => ![0, 0, k.rev.val, 0]) S1x128x1x128.size
    (fun k => slab_inb k.rev) (fun k => rowsOf y k.rev) _ _ ⟨t.rev, ?_⟩ ?_
  · intro a
    rw [Fin.rev_rev]
    fin_cases a
    · show 0 ≤ 0 ∧ 0 < 0 + 1; omega
    · show 0 ≤ r.val ∧ r.val < 0 + 128; omega
    · show t.val ≤ t.val ∧ t.val < t.val + 1; omega
    · show 0 ≤ f.val ∧ f.val < 0 + 128; omega
  · intro k x h
    have h0 : (0 : Nat) = 0 + (x 0).val := h 0
    have h1 : r.val = 0 + (x 1).val := h 1
    have h2 : t.val = k.rev.val + (x 2).val := h 2
    have h3 : f.val = 0 + (x 3).val := h 3
    have h2' : (x 2).val < 1 := (x 2).isLt
    have hk : k.rev = t := Fin.ext (by omega)
    have hx : x = ix4 0 r 0 f := by
      funext a
      fin_cases a <;> refine Fin.ext ?_
      · show (x 0).val = 0; omega
      · show (x 1).val = r.val; omega
      · show (x 2).val = 0; omega
      · show (x 3).val = f.val; omega
    rw [hx, hk]
    exact rowsOf_apply y t r f

section
variable (i : grid0.Coords) {x0 : Vec Ideal S1x16x1024 .f32} {x1 : Vec Ideal S1x1x128x16 .f32} {x2 : Vec Ideal S16x75 .f32}
  {x3 : Vec Ideal S16x75 .f32} {x4 : Vec Ideal S75x25 .f32} {x5 : Vec Ideal S25x400 .f32} {x6 : Vec Ideal S66x16 .f32}
  {x7 : Vec Ideal S1x16 .f32} {x8 : Vec Ideal S128x416 .f32} {x9 : Vec Ideal S1x128 .f32} {x10 : Vec Ideal S1x128 .f32}
  {X : Fin 1024 → Fin 4 → Fin 3 → EReal} {C : Fin 1024 → BitVec 32} {res : Fin 128 → Fin 1024}
  {W : Fin 16 → Fin 66 → EReal} {bias : Fin 16 → EReal} {E : Fin 128 → Fin 416 → EReal} {g b : Fin 128 → EReal}

theorem zero2 : (![0, 0] : Fin 2 → Nat) = fun _ => 0 := funext fun a => by fin_cases a <;> rfl

theorem zero3 : (![0, 0, 0] : Fin 3 → Nat) = fun _ => 0 := funext fun a => by fin_cases a <;> rfl

theorem zero4 : (![0, 0, 0, 0] : Fin 4 → Nat) = fun _ => 0 := funext fun a => by fin_cases a <;> rfl

theorem table_eq : table (F := Ideal) i x0 x1 x2 x3 x4 x5 x6 x7 x8 x9 x10 = k0_pay6 x0 := by
  show k0_pay6 (View.ld x0 r0_0) = _
  rw [View.ld_unit_zero zero3]

theorem own_eq : own (F := Ideal) i x0 x1 x2 x3 x4 x5 x6 x7 x8 x9 x10 = ownRows x1 := by
  show ownRows (View.ld x1 r0_1) = _
  rw [View.ld_unit_zero zero4]

theorem dists_eq : dists (F := Ideal) i x0 x1 x2 x3 x4 x5 x6 x7 x8 x9 x10 = distsOf x0 x1 := by
  show distsOf (View.ld x0 r0_0) (View.ld x1 r0_1) = _
  rw [View.ld_unit_zero zero3, View.ld_unit_zero zero4]

/-- The feature rows that a block leaves. -/
theorem Holds.out11 (h : Holds x0 x1 X (labels C) res) (T : Tables x2 x3 x4 x5)
    (ha : ∀ r, BitVec.ofNat 32 (i 1).val * 128#32 + BitVec.ofNat 32 r.val = BitVec.ofNat 32 (res r).val)
    (h6 : ∀ q c, x6 (ix2 q c) = W c q) (h7 : ∀ c, x7 (ix2 0 c) = bias c) (h8 : ∀ f e, x8 (ix2 f e) = E f e)
    (h9 : ∀ f, x9 (ix2 0 f) = g f) (h10 : ∀ f, x10 (ix2 0 f) = b f) (t : Fin 30) (r : Fin 128) (f : Fin 128) :
    out0_11 (F := Ideal) i x0 x1 x2 x3 x4 x5 x6 x7 x8 x9 x10 (ix4 0 r t f)
      = norm (project E (positional C W bias (res r) (near X (res r) ⟨t.val, by omega⟩))
          (EdgeGraph.radial X (res r) (near X (res r) ⟨t.val, by omega⟩))) g b f := by
  rw [out0_11_eq, canon_rows, ← h.rows_eq T _ ha x6 x7 x8 x9 x10 W bias E g b h6 h7 h8 h9 h10 t r f]
  unfold k0_pay281 k0_pay280
  rw [low_rows_eq]
  rw [dists_eq, table_eq, own_eq]
  unfold EdgeGraph.tableOf
  rw [View.ld_unit_zero (S := S16x75) zero2, View.ld_unit_zero (S := S16x75) zero2, View.ld_unit_zero (S := S75x25) zero2,
    View.ld_unit_zero (S := S25x400) zero2, View.ld_unit_zero (S := S66x16) zero2, View.ld_unit_zero (S := S1x16) zero2,
    View.ld_unit_zero (S := S128x416) zero2, View.ld_unit_zero (S := S1x128) zero2, View.ld_unit_zero (S := S1x128) zero2]

/-- The picks that a block leaves. -/
theorem Holds.out12 (h : Holds x0 x1 X (labels C) res) (t : Fin 30) (r : Fin 128) :
    out0_12 (F := Ideal) i x0 x1 x2 x3 x4 x5 x6 x7 x8 x9 x10 (ix3 0 r t)
      = BitVec.ofNat 32 (near X (res r) ⟨t.val, by omega⟩).val := by
  rw [out0_12_eq, dists_eq, View.canon_unit_zero (funext fun a => by fin_cases a <;> rfl)]
  refine Eq.trans ?_ ((pickedRow_apply _ t r).trans (h.pick r ⟨t.val, by omega⟩))
  pointwise []

end

end Cert.EdgeGraph
-- ==== Proof.Literals.lean ====
module

public import proofs.«01_k».proof.Proof.Features

/-! The constant tables of the kernel, entry by entry. -/

@[expose] public section

set_option maxRecDepth 16384

noncomputable section

namespace Cert.EdgeGraph

open Idealize.ShloMosaic Cert.KernelIdeal Cert.KernelIdeal.Gen

/-- Every entry of the four tables is the word of zero or of one. -/
theorem lit0_eq (c : Fin 16) (p : Fin 25) (k : Fin 3) :
    lit0 (S16x75.rowMajor (ix2 c (col p k))) = if c = slot (firstOf p) k then 0x3F800000#32 else 0#32 := by
  revert c p k; decide +kernel

theorem lit1_eq (c : Fin 16) (p : Fin 25) (k : Fin 3) :
    lit1 (S16x75.rowMajor (ix2 c (col p k))) = if c = slot (secondOf p) k then 0x3F800000#32 else 0#32 := by
  revert c p k; decide +kernel

theorem lit2_eq (x : Fin 75) (p : Fin 25) :
    lit2 (S75x25.rowMajor (ix2 x p)) = if x.val / 3 = p.val then 0x3F800000#32 else 0#32 := by
  revert x p; decide +kernel

theorem lit3_eq (p : Fin 25) (e : Fin 400) :
    lit3 (S25x400.rowMajor (ix2 p e)) = if e.val / 16 = p.val then 0x3F800000#32 else 0#32 := by
  revert p e; decide +kernel

theorem ofBits_bit (P : Prop) [Decidable P] :
    (FloatOps.ofBits .f32 (if P then 0x3F800000#32 else 0#32) : Ideal .f32) = if P then (1 : EReal) else 0 := by
  show Ideal.ofBits .f32 _ = _
  split
  · simp [Ideal.ofBits, Ideal.ieee]
    rw [← EReal.coe_mul]
    norm_num
  · simp [Ideal.ofBits, Ideal.ieee]

end Cert.EdgeGraph
-- ==== Proof.Arrays.lean ====
module

public import proofs.«01_k».proof.Proof.Entry
public import proofs.«01_k».proof.Proof.Stores
public import proofs.«01_k».proof.Proof.Literals
public import proofs.«01_k».proof.Proof.Gen.KernelIdeal.Value

/-! The kernel's two output arrays at an index, over the arguments. -/

@[expose] public section

set_option maxRecDepth 16384

noncomputable section

namespace Cert.EdgeGraph

open Idealize.ShloMosaic Idealize.ShloMosaic.TcCoe Cert.KernelIdeal Cert.KernelIdeal.Gen

/-- Where each window stands at a grid point: the point's batch and row block, or the start of a whole array. -/
theorem point_coords : ∀ t : Fin cfg0.N, (grid0.coords t 0).val = t.val / 8 ∧ (grid0.coords t 1).val = t.val % 8 :=
  (by decide +kernel : ∀ t : Fin grid0.N, _)

theorem moves : ∀ t : Fin cfg0.N, win0_0.index t (0 : Fin 3) = t.val / 8 ∧ win0_0.index t (1 : Fin 3) = 0
    ∧ win0_0.index t (2 : Fin 3) = 0 ∧ win0_1.index t (0 : Fin 4) = t.val / 8 ∧ win0_1.index t (1 : Fin 4) = t.val % 8
    ∧ win0_1.index t (2 : Fin 4) = 0 ∧ win0_1.index t (3 : Fin 4) = 0
    ∧ win0_11.index t (0 : Fin 4) = t.val / 8 ∧ win0_11.index t (1 : Fin 4) = t.val % 8
    ∧ win0_11.index t (2 : Fin 4) = 0 ∧ win0_11.index t (3 : Fin 4) = 0
    ∧ win0_12.index t (0 : Fin 3) = t.val / 8 ∧ win0_12.index t (1 : Fin 3) = t.val % 8
    ∧ win0_12.index t (2 : Fin 3) = 0 :=
  (by decide +kernel : ∀ t : Fin grid0.N, _)

theorem stays : ∀ t : Fin cfg0.N, ∀ a : Fin 2, win0_2.index t a = 0 ∧ win0_3.index t a = 0 ∧ win0_4.index t a = 0
    ∧ win0_5.index t a = 0 ∧ win0_6.index t a = 0 ∧ win0_7.index t a = 0 ∧ win0_8.index t a = 0
    ∧ win0_9.index t a = 0 ∧ win0_10.index t a = 0 :=
  (by decide +kernel : ∀ t : Fin grid0.N, _)

variable (m : (ℓ : Loc nD τ sig) → Buf (Elt Ideal) ℓ) (c : Dev nD)

theorem iblk2_eq (t : Fin cfg0.N) : iblk m c 2 t = (V m c main_cst : Vec Ideal S16x75 .f32) := by
  funext (j : S16x75.Idx)
  show V m c main_cst (((cfg0.win 2).blk t).view.emb j) = V m c main_cst j
  congr 1
  funext (a : Fin 2)
  apply Fin.ext
  obtain ⟨e, _, _, _, _, _, _, _, _⟩ := stays t a
  match a with
  | ⟨0, _⟩ => show win0_2.index t (0 : Fin 2) * 16 + 1 * (j 0).val = (j 0).val; erw [e]; omega
  | ⟨1, _⟩ => show win0_2.index t (1 : Fin 2) * 75 + 1 * (j 1).val = (j 1).val; erw [e]; omega

theorem iblk3_eq (t : Fin cfg0.N) : iblk m c 3 t = (V m c main_cst_0 : Vec Ideal S16x75 .f32) := by
  funext (j : S16x75.Idx)
  show V m c main_cst_0 (((cfg0.win 3).blk t).view.emb j) = V m c main_cst_0 j
  congr 1
  funext (a : Fin 2)
  apply Fin.ext
  obtain ⟨_, e, _, _, _, _, _, _, _⟩ := stays t a
  match a with
  | ⟨0, _⟩ => show win0_3.index t (0 : Fin 2) * 16 + 1 * (j 0).val = (j 0).val; erw [e]; omega
  | ⟨1, _⟩ => show win0_3.index t (1 : Fin 2) * 75 + 1 * (j 1).val = (j 1).val; erw [e]; omega

theorem iblk4_eq (t : Fin cfg0.N) : iblk m c 4 t = (V m c main_cst_1 : Vec Ideal S75x25 .f32) := by
  funext (j : S75x25.Idx)
  show V m c main_cst_1 (((cfg0.win 4).blk t).view.emb j) = V m c main_cst_1 j
  congr 1
  funext (a : Fin 2)
  apply Fin.ext
  obtain ⟨_, _, e, _, _, _, _, _, _⟩ := stays t a
  match a with
  | ⟨0, _⟩ => show win0_4.index t (0 : Fin 2) * 75 + 1 * (j 0).val = (j 0).val; erw [e]; omega
  | ⟨1, _⟩ => show win0_4.index t (1 : Fin 2) * 25 + 1 * (j 1).val = (j 1).val; erw [e]; omega

theorem iblk5_eq (t : Fin cfg0.N) : iblk m c 5 t = (V m c main_cst_2 : Vec Ideal S25x400 .f32) := by
  funext (j : S25x400.Idx)
  show V m c main_cst_2 (((cfg0.win 5).blk t).view.emb j) = V m c main_cst_2 j
  congr 1
  funext (a : Fin 2)
  apply Fin.ext
  obtain ⟨_, _, _, e, _, _, _, _, _⟩ := stays t a
  match a with
  | ⟨0, _⟩ => show win0_5.index t (0 : Fin 2) * 25 + 1 * (j 0).val = (j 0).val; erw [e]; omega
  | ⟨1, _⟩ => show win0_5.index t (1 : Fin 2) * 400 + 1 * (j 1).val = (j 1).val; erw [e]; omega

theorem iblk6_eq (t : Fin cfg0.N) : iblk m c 6 t = (V m c main_v8 : Vec Ideal S66x16 .f32) := by
  funext (j : S66x16.Idx)
  show V m c main_v8 (((cfg0.win 6).blk t).view.emb j) = V m c main_v8 j
  congr 1
  funext (a : Fin 2)
  apply Fin.ext
  obtain ⟨_, _, _, _, e, _, _, _, _⟩ := stays t a
  match a with
  | ⟨0, _⟩ => show win0_6.index t (0 : Fin 2) * 66 + 1 * (j 0).val = (j 0).val; erw [e]; omega
  | ⟨1, _⟩ => show win0_6.index t (1 : Fin 2) * 16 + 1 * (j 1).val = (j 1).val; erw [e]; omega

theorem iblk7_eq (t : Fin cfg0.N) : iblk m c 7 t = (V m c main_v9 : Vec Ideal S1x16 .f32) := by
  funext (j : S1x16.Idx)
  show V m c main_v9 (((cfg0.win 7).blk t).view.emb j) = V m c main_v9 j
  congr 1
  funext (a : Fin 2)
  apply Fin.ext
  obtain ⟨_, _, _, _, _, e, _, _, _⟩ := stays t a
  match a with
  | ⟨0, _⟩ => show win0_7.index t (0 : Fin 2) * 1 + 1 * (j 0).val = (j 0).val; erw [e]; omega
  | ⟨1, _⟩ => show win0_7.index t (1 : Fin 2) * 16 + 1 * (j 1).val = (j 1).val; erw [e]; omega

theorem iblk8_eq (t : Fin cfg0.N) : iblk m c 8 t = (V m c main_arg6 : Vec Ideal S128x416 .f32) := by
  funext (j : S128x416.Idx)
  show V m c main_arg6 (((cfg0.win 8).blk t).view.emb j) = V m c main_arg6 j
  congr 1
  funext (a : Fin 2)
  apply Fin.ext
  obtain ⟨_, _, _, _, _, _, e, _, _⟩ := stays t a
  match a with
  | ⟨0, _⟩ => show win0_8.index t (0 : Fin 2) * 128 + 1 * (j 0).val = (j 0).val; erw [e]; omega
  | ⟨1, _⟩ => show win0_8.index t (1 : Fin 2) * 416 + 1 * (j 1).val = (j 1).val; erw [e]; omega

theorem iblk9_eq (t : Fin cfg0.N) : iblk m c 9 t = (V m c main_v10 : Vec Ideal S1x128 .f32) := by
  funext (j : S1x128.Idx)
  show V m c main_v10 (((cfg0.win 9).blk t).view.emb j) = V m c main_v10 j
  congr 1
  funext (a : Fin 2)
  apply Fin.ext
  obtain ⟨_, _, _, _, _, _, _, e, _⟩ := stays t a
  match a with
  | ⟨0, _⟩ => show win0_9.index t (0 : Fin 2) * 1 + 1 * (j 0).val = (j 0).val; erw [e]; omega
  | ⟨1, _⟩ => show win0_9.index t (1 : Fin 2) * 128 + 1 * (j 1).val = (j 1).val; erw [e]; omega

theorem iblk10_eq (t : Fin cfg0.N) : iblk m c 10 t = (V m c main_v11 : Vec Ideal S1x128 .f32) := by
  funext (j : S1x128.Idx)
  show V m c main_v11 (((cfg0.win 10).blk t).view.emb j) = V m c main_v11 j
  congr 1
  funext (a : Fin 2)
  apply Fin.ext
  obtain ⟨_, _, _, _, _, _, _, _, e⟩ := stays t a
  match a with
  | ⟨0, _⟩ => show win0_10.index t (0 : Fin 2) * 1 + 1 * (j 0).val = (j 0).val; erw [e]; omega
  | ⟨1, _⟩ => show win0_10.index t (1 : Fin 2) * 128 + 1 * (j 1).val = (j 1).val; erw [e]; omega

/-- The grid point of a batch and a row block. -/
def pt (b : Fin 2) (n : Fin 8) : Fin cfg0.N := ⟨b.val * 8 + n.val, by show _ < 16; omega⟩

theorem iblk0_apply (b : Fin 2) (n : Fin 8) (k : Fin 16) (j : Fin 1024) :
    (iblk m c 0 (pt b n) : Vec Ideal S1x16x1024 .f32) (ix3 0 k j) = (V m c main_v5 : Vec Ideal S2x16x1024 .f32) (ix3 b k j) := by
  show V m c main_v5 (((cfg0.win 0).blk (pt b n)).view.emb (ix3 0 k j)) = V m c main_v5 (ix3 b k j)
  congr 1
  obtain ⟨e0, e1, e2, _⟩ := moves (pt b n)
  have hp : (pt b n).val = b.val * 8 + n.val := rfl
  funext (a : Fin 3)
  apply Fin.ext
  match a with
  | ⟨0, _⟩ => show win0_0.index (pt b n) (0 : Fin 3) * 1 + 1 * 0 = b.val; omega
  | ⟨1, _⟩ => show win0_0.index (pt b n) (1 : Fin 3) * 16 + 1 * k.val = k.val; omega
  | ⟨2, _⟩ => show win0_0.index (pt b n) (2 : Fin 3) * 1024 + 1 * j.val = j.val; omega

theorem iblk1_apply (b : Fin 2) (n : Fin 8) (r : Fin 128) (k : Fin 16) :
    (iblk m c 1 (pt b n) : Vec Ideal S1x1x128x16 .f32) (ix4 0 0 r k) = (V m c main_v7 : Vec Ideal S2x8x128x16 .f32) (ix4 b n r k) := by
  show V m c main_v7 (((cfg0.win 1).blk (pt b n)).view.emb (ix4 0 0 r k)) = V m c main_v7 (ix4 b n r k)
  congr 1
  obtain ⟨_, _, _, e0, e1, e2, e3, _⟩ := moves (pt b n)
  have hp : (pt b n).val = b.val * 8 + n.val := rfl
  funext (a : Fin 4)
  apply Fin.ext
  match a with
  | ⟨0, _⟩ => show win0_1.index (pt b n) (0 : Fin 4) * 1 + 1 * 0 = b.val; omega
  | ⟨1, _⟩ => show win0_1.index (pt b n) (1 : Fin 4) * 1 + 1 * 0 = n.val; omega
  | ⟨2, _⟩ => show win0_1.index (pt b n) (2 : Fin 4) * 128 + 1 * r.val = r.val; omega
  | ⟨3, _⟩ => show win0_1.index (pt b n) (3 : Fin 4) * 16 + 1 * k.val = k.val; omega

/-- The residue of a row of a block. -/
abbrev resOf (n : Fin 8) (r : Fin 128) : Fin 1024 := ⟨n.val * 128 + r.val, by omega⟩

theorem emb11 (b : Fin 2) (n : Fin 8) (r : Fin 128) (t : Fin 30) (f : Fin 128) :
    ((cfg0.win 11).blk (pt b n)).view.emb (ix4 0 r t f) = (ix4 b (resOf n r) t f : S2x1024x30x128.Idx) := by
  obtain ⟨_, _, _, _, _, _, _, e0, e1, e2, e3, _⟩ := moves (pt b n)
  have hp : (pt b n).val = b.val * 8 + n.val := rfl
  funext (a : Fin 4)
  apply Fin.ext
  match a with
  | ⟨0, _⟩ => show win0_11.index (pt b n) (0 : Fin 4) * 1 + 1 * 0 = b.val; omega
  | ⟨1, _⟩ => show win0_11.index (pt b n) (1 : Fin 4) * 128 + 1 * r.val = n.val * 128 + r.val; omega
  | ⟨2, _⟩ => show win0_11.index (pt b n) (2 : Fin 4) * 30 + 1 * t.val = t.val; omega
  | ⟨3, _⟩ => show win0_11.index (pt b n) (3 : Fin 4) * 128 + 1 * f.val = f.val; omega

theorem emb12 (b : Fin 2) (n : Fin 8) (r : Fin 128) (t : Fin 30) :
    ((cfg0.win 12).blk (pt b n)).view.emb (ix3 0 r t) = (ix3 b (resOf n r) t : S2x1024x30.Idx) := by
  obtain ⟨_, _, _, _, _, _, _, _, _, _, _, e0, e1, e2⟩ := moves (pt b n)
  have hp : (pt b n).val = b.val * 8 + n.val := rfl
  funext (a : Fin 3)
  apply Fin.ext
  match a with
  | ⟨0, _⟩ => show win0_12.index (pt b n) (0 : Fin 3) * 1 + 1 * 0 = b.val; omega
  | ⟨1, _⟩ => show win0_12.index (pt b n) (1 : Fin 3) * 128 + 1 * r.val = n.val * 128 + r.val; omega
  | ⟨2, _⟩ => show win0_12.index (pt b n) (2 : Fin 3) * 30 + 1 * t.val = t.val; omega

theorem tables (t : Fin cfg0.N) : Tables (iblk m c 2 t) (iblk m c 3 t) (iblk m c 4 t) (iblk m c 5 t) := by
  rw [iblk2_eq, iblk3_eq, iblk4_eq, iblk5_eq, V_first, V_second, V_three, V_each]
  refine ⟨fun q p k => ?_, fun q p k => ?_, fun x p => ?_, fun p e => ?_⟩
  · exact (congrArg (FloatOps.ofBits .f32) (lit0_eq q p k)).trans (ofBits_bit _)
  · exact (congrArg (FloatOps.ofBits .f32) (lit1_eq q p k)).trans (ofBits_bit _)
  · exact (congrArg (FloatOps.ofBits .f32) (lit2_eq x p)).trans (ofBits_bit _)
  · exact (congrArg (FloatOps.ofBits .f32) (lit3_eq p e)).trans (ofBits_bit _)

/-- The coordinates of one batch. -/
abbrev coordsOf (x0 : Vec Ideal S2x1024x4x3 .f32) (b : Fin 2) : Fin 1024 → Fin 4 → Fin 3 → EReal := fun j a k => x0 (ix4 b j a k)

/-- The chain labels of one batch. -/
abbrev chainsOf (x3 : IVec S2x1024 32) (b : Fin 2) : Fin 1024 → BitVec 32 := fun j => x3 (ix2 b j)

theorem holds (hX : ∀ b j a k, IsReal (coordsOf (m ((c : Thread nD τ).loc main_arg0)) b j a k)) (b : Fin 2) (n : Fin 8) :
    Holds (iblk m c 0 (pt b n)) (iblk m c 1 (pt b n)) (coordsOf (m ((c : Thread nD τ).loc main_arg0)) b)
      (labels (chainsOf (m ((c : Thread nD τ).loc main_arg3)) b)) (resOf n) where
  cols j a k := by
    refine (iblk0_apply m c b n ⟨3 * a.val + k.val, by omega⟩ j).trans ?_
    rw [V_table, hostTable_apply]
  colChain j := by
    refine (iblk0_apply m c b n 12 j).trans ?_
    rw [V_table, hostTable_chain]
    rfl
  rows r a k := by
    refine (iblk1_apply m c b n r ⟨3 * a.val + k.val, by omega⟩).trans ?_
    rw [V_rows, hostRows_apply, hostTable_apply]
  rowChain r := by
    refine (iblk1_apply m c b n r 12).trans ?_
    rw [V_rows, hostRows_apply, hostTable_chain]
    rfl
  real := hX b
  realChain j := ⟨_, rfl⟩

/-- The feature rows that the kernel's run leaves. -/
theorem kernel_features (hX : ∀ b j a k, IsReal (coordsOf (m ((c : Thread nD τ).loc main_arg0)) b j a k))
    (b : Fin 2) (i : Fin 1024) (t : Fin 30) (f : Fin 128) :
    ((dats m 0 c).arrAt 11 cfg0.N : Vec Ideal S2x1024x30x128 .f32) (ix4 b i t f)
      = norm (project (fun f e => (m ((c : Thread nD τ).loc main_arg6) : Vec Ideal S128x416 .f32) (ix2 f e))
          (positional (chainsOf (m ((c : Thread nD τ).loc main_arg3)) b)
            (fun q p => (m ((c : Thread nD τ).loc main_arg4) : Vec Ideal S16x66 .f32) (ix2 q p))
            (fun q => (m ((c : Thread nD τ).loc main_arg5) : Vec Ideal S16 .f32) (ix1 q)) i
            (near (coordsOf (m ((c : Thread nD τ).loc main_arg0)) b) i ⟨t.val, by omega⟩))
          (radial (coordsOf (m ((c : Thread nD τ).loc main_arg0)) b) i
            (near (coordsOf (m ((c : Thread nD τ).loc main_arg0)) b) i ⟨t.val, by omega⟩)))
          (fun f => (m ((c : Thread nD τ).loc main_arg7) : Vec Ideal S128 .f32) (ix1 f))
          (fun f => (m ((c : Thread nD τ).loc main_arg8) : Vec Ideal S128 .f32) (ix1 f)) f := by
  obtain ⟨n, r, rfl⟩ : ∃ (n : Fin 8) (r : Fin 128), i = resOf n r :=
    ⟨⟨i.val / 128, by omega⟩, ⟨i.val % 128, by omega⟩, Fin.ext (by show i.val = i.val / 128 * 128 + i.val % 128; omega)⟩
  have hb := congrFun (Cert.KernelIdeal.Value.blocks11 m c (pt b n) (flush0_11 _)) (ix4 0 r t f)
  rw [Cert.KernelIdeal.Value.flushed11] at hb
  have hl : ((cfg0.win 11).blk (pt b n)).view.read (Elt Ideal) ((dats m 0 c).arrAt 11 cfg0.N) (ix4 0 r t f)
      = ((dats m 0 c).arrAt 11 cfg0.N : Vec Ideal S2x1024x30x128 .f32) (ix4 b (resOf n r) t f) :=
    congrArg ((dats m 0 c).arrAt 11 cfg0.N : Vec Ideal S2x1024x30x128 .f32) (emb11 b n r t f)
  refine hl.symm.trans (hb.trans ?_)
  refine ((holds m c hX b n).out11 (grid0.coords (pt b n)) (tables m c (pt b n)) ?_ ?_ ?_ ?_ ?_ ?_ t r f)
  · intro r
    obtain ⟨-, e⟩ := point_coords (pt b n)
    have hp : (pt b n).val = b.val * 8 + n.val := rfl
    rw [show ((grid0.coords (pt b n)) 1).val = n.val by omega]
    show _ = BitVec.ofNat 32 (n.val * 128 + r.val)
    rw [BitVec.ofNat_add, BitVec.ofNat_mul]
  · intro q p
    rw [iblk6_eq, V_posW]
    pointwise []
  · intro q
    rw [iblk7_eq, V_posB]
    pointwise []
  · intro f e
    rw [iblk8_eq, V_main_arg6]
  · intro f
    rw [iblk9_eq, V_lnW]
    pointwise []
  · intro f
    rw [iblk10_eq, V_lnB]
    pointwise []

/-- The picks that the kernel's run leaves. -/
theorem kernel_picks (hX : ∀ b j a k, IsReal (coordsOf (m ((c : Thread nD τ).loc main_arg0)) b j a k))
    (b : Fin 2) (i : Fin 1024) (t : Fin 30) :
    ((dats m 0 c).arrAt 12 cfg0.N : IVec S2x1024x30 32) (ix3 b i t)
      = BitVec.ofNat 32 (near (coordsOf (m ((c : Thread nD τ).loc main_arg0)) b) i ⟨t.val, by omega⟩).val := by
  obtain ⟨n, r, rfl⟩ : ∃ (n : Fin 8) (r : Fin 128), i = resOf n r :=
    ⟨⟨i.val / 128, by omega⟩, ⟨i.val % 128, by omega⟩, Fin.ext (by show i.val = i.val / 128 * 128 + i.val % 128; omega)⟩
  have hb := congrFun (Cert.KernelIdeal.Value.blocks12 m c (pt b n) (flush0_12 _)) (ix3 0 r t)
  rw [Cert.KernelIdeal.Value.flushed12] at hb
  have hl : ((cfg0.win 12).blk (pt b n)).view.read (Elt Ideal) ((dats m 0 c).arrAt 12 cfg0.N) (ix3 0 r t)
      = ((dats m 0 c).arrAt 12 cfg0.N : IVec S2x1024x30 32) (ix3 b (resOf n r) t) :=
    congrArg ((dats m 0 c).arrAt 12 cfg0.N : IVec S2x1024x30 32) (emb12 b n r t)
  refine hl.symm.trans (hb.trans ?_)
  exact (holds m c hX b n).out12 (grid0.coords (pt b n)) t r

end Cert.EdgeGraph
-- ==== Proof.RefAtoms.lean ====
module

public import proofs.«01_k».proof.Proof.Spec
public import proofs.«01_k».proof.Proof.Gen.ReferenceIdeal.Read

/-! The reference's atoms, its distances and its stacks of atoms, read at an index. -/

@[expose] public section

set_option maxRecDepth 16384

noncomputable section

namespace Cert.EdgeGraph

open Idealize.ShloMosaic Cert.ReferenceIdeal Cert.ReferenceIdeal.Read

/-- The coordinates of one batch. -/
abbrev refX (x0 : Vec Ideal S2x1024x4x3 .f32) (b : Fin 2) : Fin 1024 → Fin 4 → Fin 3 → EReal := fun j a k => x0 (ix4 b j a k)

section
variable (x0 : Vec Ideal S2x1024x4x3 .f32) (b : Fin 2) (j : Fin 1024) (k : Fin 3)

theorem ref_v49 : val_main_v49 (F := Ideal) x0 (ix3 b j k) = atom (refX x0 b) 0 j k := by
  show _ = x0 (ix4 b j 0 k)
  pointwise [val_main_v49, val_main_v48]

theorem ref_v47 : val_main_v47 (F := Ideal) x0 (ix3 b j k) = atom (refX x0 b) 1 j k := by
  show _ = x0 (ix4 b j 1 k)
  pointwise [val_main_v47, val_main_v46]

theorem ref_v51 : val_main_v51 (F := Ideal) x0 (ix3 b j k) = atom (refX x0 b) 2 j k := by
  show _ = x0 (ix4 b j 2 k)
  pointwise [val_main_v51, val_main_v50]

theorem ref_v53 : val_main_v53 (F := Ideal) x0 (ix3 b j k) = atom (refX x0 b) 3 j k := by
  show _ = x0 (ix4 b j 3 k)
  pointwise [val_main_v53, val_main_v52]

theorem ref_v4 : val_main_v4 (F := Ideal) x0 (ix3 b j k) = armB (refX x0 b) j k := by
  show _ = x0 (ix4 b j 2 k) - x0 (ix4 b j 0 k)
  pointwise [val_main_v4, val_main_v3, val_main_v2, val_main_v1, val_main_v0]

theorem ref_v9 : val_main_v9 (F := Ideal) x0 (ix3 b j k) = armC (refX x0 b) j k := by
  show _ = x0 (ix4 b j 1 k) - x0 (ix4 b j 2 k)
  pointwise [val_main_v9, val_main_v8, val_main_v7, val_main_v6, val_main_v5]

theorem ref_v11 : val_main_v11 (F := Ideal) x0 (ix2 b j) = armB (refX x0 b) j 0 := by
  rw [← ref_v4]; pointwise [val_main_v11, val_main_v10]
theorem ref_v13 : val_main_v13 (F := Ideal) x0 (ix2 b j) = armB (refX x0 b) j 1 := by
  rw [← ref_v4]; pointwise [val_main_v13, val_main_v12]
theorem ref_v15 : val_main_v15 (F := Ideal) x0 (ix2 b j) = armB (refX x0 b) j 2 := by
  rw [← ref_v4]; pointwise [val_main_v15, val_main_v14]
theorem ref_v17 : val_main_v17 (F := Ideal) x0 (ix2 b j) = armC (refX x0 b) j 0 := by
  rw [← ref_v9]; pointwise [val_main_v17, val_main_v16]
theorem ref_v19 : val_main_v19 (F := Ideal) x0 (ix2 b j) = armC (refX x0 b) j 1 := by
  rw [← ref_v9]; pointwise [val_main_v19, val_main_v18]
theorem ref_v21 : val_main_v21 (F := Ideal) x0 (ix2 b j) = armC (refX x0 b) j 2 := by
  rw [← ref_v9]; pointwise [val_main_v21, val_main_v20]

theorem ref_v34 : val_main_v34 (F := Ideal) x0 (ix3 b j k) = cross (armB (refX x0 b) j) (armC (refX x0 b) j) k := by
  have h24 : val_main_v24 (F := Ideal) x0 (ix2 b j) = cross (armB (refX x0 b) j) (armC (refX x0 b) j) 0 := by
    show val_main_v13 x0 (ix2 b j) * val_main_v21 x0 (ix2 b j) - val_main_v15 x0 (ix2 b j) * val_main_v19 x0 (ix2 b j) = _
    rw [ref_v13, ref_v21, ref_v15, ref_v19]; rfl
  have h27 : val_main_v27 (F := Ideal) x0 (ix2 b j) = cross (armB (refX x0 b) j) (armC (refX x0 b) j) 1 := by
    show val_main_v15 x0 (ix2 b j) * val_main_v17 x0 (ix2 b j) - val_main_v11 x0 (ix2 b j) * val_main_v21 x0 (ix2 b j) = _
    rw [ref_v15, ref_v17, ref_v11, ref_v21]; rfl
  have h30 : val_main_v30 (F := Ideal) x0 (ix2 b j) = cross (armB (refX x0 b) j) (armC (refX x0 b) j) 2 := by
    show val_main_v11 x0 (ix2 b j) * val_main_v19 x0 (ix2 b j) - val_main_v13 x0 (ix2 b j) * val_main_v17 x0 (ix2 b j) = _
    rw [ref_v11, ref_v19, ref_v13, ref_v17]; rfl
  fin_cases k
  · refine Eq.trans ?_ h24; pointwise [val_main_v34, val_main_v31]
  · refine Eq.trans ?_ h27; pointwise [val_main_v34, val_main_v32]
  · refine Eq.trans ?_ h30; pointwise [val_main_v34, val_main_v33]

theorem ref_v45 : val_main_v45 (F := Ideal) x0 (ix3 b j k) = atom (refX x0 b) 4 j k := by
  have h : val_main_v44 (F := Ideal) x0 (ix3 b j k) = x0 (ix4 b j 2 k) := by
    pointwise [val_main_v44, val_main_v43]
  show Ideal.ofBits .f32 0xBF152E13#32 * val_main_v34 (F := Ideal) x0 (ix3 b j k)
    + Ideal.ofBits .f32 0x3F116A4D#32 * val_main_v4 (F := Ideal) x0 (ix3 b j k)
    - Ideal.ofBits .f32 0x3F0A69A8#32 * val_main_v9 (F := Ideal) x0 (ix3 b j k) + val_main_v44 (F := Ideal) x0 (ix3 b j k) = _
  rw [ref_v34, ref_v4, ref_v9, h]
  rfl

/-- The first atoms of the twenty-four stacked pairs. -/
theorem ref_v105 (p : Fin 24) : val_main_v105 (F := Ideal) x0 (ix4 b j p k) = atom (refX x0 b) (firstOf p.succ) j k := by
  fin_cases p
  all_goals first
    | (refine Eq.trans ?_ (ref_v49 x0 b j k); pointwise [val_main_v105, val_main_v103, val_main_v104, val_main_v79, val_main_v85, val_main_v86, val_main_v88, val_main_v97]; done)
    | (refine Eq.trans ?_ (ref_v47 x0 b j k); pointwise [val_main_v105, val_main_v103, val_main_v104, val_main_v82, val_main_v83, val_main_v84, val_main_v95]; done)
    | (refine Eq.trans ?_ (ref_v51 x0 b j k); pointwise [val_main_v105, val_main_v103, val_main_v104, val_main_v80, val_main_v89, val_main_v91, val_main_v93, val_main_v102]; done)
    | (refine Eq.trans ?_ (ref_v53 x0 b j k); pointwise [val_main_v105, val_main_v103, val_main_v104, val_main_v94, val_main_v96, val_main_v98, val_main_v100, val_main_v101]; done)
    | (refine Eq.trans ?_ (ref_v45 x0 b j k); pointwise [val_main_v105, val_main_v103, val_main_v104, val_main_v81, val_main_v87, val_main_v90, val_main_v92, val_main_v99]; done)

/-- The second atoms of the twenty-four stacked pairs. -/
theorem ref_v132 (p : Fin 24) : val_main_v132 (F := Ideal) x0 (ix4 b j p k) = atom (refX x0 b) (secondOf p.succ) j k := by
  fin_cases p
  all_goals first
    | (refine Eq.trans ?_ (ref_v49 x0 b j k); pointwise [val_main_v132, val_main_v130, val_main_v131, val_main_v106, val_main_v109, val_main_v118, val_main_v119, val_main_v125]; done)
    | (refine Eq.trans ?_ (ref_v51 x0 b j k); pointwise [val_main_v132, val_main_v130, val_main_v131, val_main_v107, val_main_v110, val_main_v112, val_main_v114, val_main_v127]; done)
    | (refine Eq.trans ?_ (ref_v47 x0 b j k); pointwise [val_main_v132, val_main_v130, val_main_v131, val_main_v115, val_main_v116, val_main_v117, val_main_v123]; done)
    | (refine Eq.trans ?_ (ref_v53 x0 b j k); pointwise [val_main_v132, val_main_v130, val_main_v131, val_main_v121, val_main_v122, val_main_v124, val_main_v126, val_main_v129]; done)
    | (refine Eq.trans ?_ (ref_v45 x0 b j k); pointwise [val_main_v132, val_main_v130, val_main_v131, val_main_v108, val_main_v111, val_main_v113, val_main_v120, val_main_v128]; done)

/-- The distances of the stacked pairs. -/
theorem ref_v142 (i : Fin 1024) (p : Fin 24) : val_main_v142 (F := Ideal) x0 (ix4 b i j p)
    = gap (refX x0 b) (firstOf p.succ) (secondOf p.succ) i j := by
  have h : ∀ k, val_main_v137 (F := Ideal) x0 (ix5 b i j p k)
      = atom (refX x0 b) (firstOf p.succ) i k - atom (refX x0 b) (secondOf p.succ) j k := by
    intro k
    rw [← ref_v105, ← ref_v132]
    pointwise [val_main_v137, val_main_v135, val_main_v133, val_main_v136, val_main_v134]
  have h139 : val_main_v139 (F := Ideal) x0 (ix4 b i j p) = gap2 (refX x0 b) (firstOf p.succ) (secondOf p.succ) i j := by
    unfold gap2
    simp only [← h]
    pointwise [val_main_v139, val_main_v138, val_main_cst_6]
  show Ideal.sqrt (val_main_v139 (F := Ideal) x0 (ix4 b i j p) + Ideal.ofBits .f32 0x358637BD#32) = _
  rw [h139]
  rfl

/-- The distances of the second atoms. -/
theorem ref_v68 (hX : ∀ j a k, IsReal (refX x0 b j a k)) (i : Fin 1024) :
    val_main_v68 (F := Ideal) x0 (ix3 b i j) = gap (refX x0 b) 1 1 i j := by
  have h : ∀ k, val_main_v63 (F := Ideal) x0 (ix4 b i j k) = atom (refX x0 b) 1 j k - atom (refX x0 b) 1 i k := by
    intro k
    rw [← ref_v47, ← ref_v47]
    pointwise [val_main_v63, val_main_v61, val_main_v59, val_main_v62, val_main_v60]
  have h65 : val_main_v65 (F := Ideal) x0 (ix3 b i j) = gap2 (refX x0 b) 1 1 i j := by
    rw [gap2_comm _ hX]
    unfold gap2
    simp only [← h]
    pointwise [val_main_v65, val_main_v64, val_main_cst_2]
  show Ideal.sqrt (val_main_v65 (F := Ideal) x0 (ix3 b i j) + Ideal.ofBits .f32 0x358637BD#32) = _
  rw [h65]
  rfl

end

end Cert.EdgeGraph
-- ==== Proof.RefRanking.lean ====
module

public import proofs.«01_k».proof.Proof.RefAtoms
public import Idealize.ShloMosaic.Lib.DynamicIndex

/-! The reference's thirty nearest residues, and what it gathers at them. -/

@[expose] public section

set_option maxRecDepth 16384

noncomputable section

namespace Cert.EdgeGraph

open Idealize.ShloMosaic Cert.ReferenceIdeal Cert.ReferenceIdeal.Read

section
variable (x0 : Vec Ideal S2x1024x4x3 .f32) (x1 : Vec Ideal S2x1024 .f32) (b : Fin 2)

/-- With no residue masked the key of a residue is its distance, negated. -/
theorem ref_v77 (hX : ∀ j a k, IsReal (refX x0 b j a k)) (hm : ∀ j, x1 (ix2 b j) = 1) (i j : Fin 1024) :
    val_main_v77 (F := Ideal) x0 x1 (ix3 b i j) = -gap (refX x0 b) 1 1 i j := by
  have h58 : val_main_v58 (F := Ideal) x1 (ix3 b i j) = 1 := by
    have : val_main_v58 (F := Ideal) x1 (ix3 b i j) = x1 (ix2 b j) * x1 (ix2 b i) := by
      pointwise [val_main_v58, val_main_v57, val_main_v56, val_main_v55, val_main_v54]
    rw [this, hm, hm, mul_one]
  have h1 : (Ideal.ofBits .f32 0x3F800000#32) = 1 := by
    simp [Ideal.ofBits, Ideal.ieee]
    rw [← EReal.coe_mul]
    norm_num
  show -(val_main_v58 (F := Ideal) x1 (ix3 b i j) * val_main_v68 (F := Ideal) x0 (ix3 b i j)
    + (Ideal.ofBits .f32 0x3F800000#32 - val_main_v58 (F := Ideal) x1 (ix3 b i j)) * val_main_v74 (F := Ideal) x0 x1 (ix3 b i j)) = _
  rw [h58, h1, ref_v68 x0 b j hX i, one_mul, show (1 : EReal) - 1 = 0 from IsReal.sub_self ⟨1, rfl⟩, zero_mul, add_zero]

/-- The position that a sort of the row puts at `t`. -/
theorem ref_order (hX : ∀ j a k, IsReal (refX x0 b j a k)) (hm : ∀ j, x1 (ix2 b j) = 1) (i t : Fin 1024) :
    sortedFrom (fun k k' : Fin 1024 => FloatOps.cmpfTotal (F := Ideal) (φ := .f32) .gt (val_main_v77 (F := Ideal) x0 x1 (ix3 b i k))
      (val_main_v77 (F := Ideal) x0 x1 (ix3 b i k')) == 1#1) t = near (refX x0 b) i t := by
  unfold near nearest
  congr 1
  funext k k'
  rw [ref_v77 x0 x1 b hX hm, ref_v77 x0 x1 b hX hm]
  show (BitVec.ofBool (decide (-gap (refX x0 b) 1 1 i k' < -gap (refX x0 b) 1 1 i k)) == 1#1) = _
  by_cases h : gap (refX x0 b) 1 1 i k < gap (refX x0 b) 1 1 i k' <;> simp [EReal.neg_lt_neg_iff, h]

omit x0 x1 in
theorem along_last (i t k : Fin 1024) : (ix3 b i t : S2x1024x1024.Idx).along 2 k = ix3 b i k := by
  funext a
  fin_cases a <;> rfl

/-- The two results of the selection, at a slot. -/
theorem topK_apply (gt : EReal → EReal → BitVec 1) (y : S2x1024x1024.Idx → EReal)
    (h : S2x1024x1024.Slices (fun _ => 0) S2x1024x30) (i : Fin 1024) (t : Fin 30) :
    (Host.topK S2x1024x30 2 gt y h).1 (ix3 b i t)
        = y (ix3 b i (sortedFrom (fun k k' : Fin 1024 => gt (y (ix3 b i k)) (y (ix3 b i k')) == 1#1) ⟨t.val, by omega⟩))
      ∧ (Host.topK S2x1024x30 2 gt y h).2 (ix3 b i t)
        = BitVec.ofNat 32
            (sortedFrom (fun k k' : Fin 1024 => gt (y (ix3 b i k)) (y (ix3 b i k')) == 1#1) ⟨t.val, by omega⟩).val := by
  have key : ∀ (σ : (Fin 1024 → Fin 1024 → Bool) → Fin 1024 → Fin 1024) (j : S2x1024x1024.Idx), j = ix3 b i ⟨t.val, by omega⟩ →
      y (j.along 2 (σ (fun k k' : Fin 1024 => gt (y (j.along 2 k)) (y (j.along 2 k')) == 1#1) (j 2)))
        = y (ix3 b i (σ (fun k k' : Fin 1024 => gt (y (ix3 b i k)) (y (ix3 b i k')) == 1#1) ⟨t.val, by omega⟩))
      ∧ iotaInDim S2x1024x1024 32 2
          (j.along 2 (σ (fun k k' : Fin 1024 => gt (y (j.along 2 k)) (y (j.along 2 k')) == 1#1) (j 2)))
        = BitVec.ofNat 32
            (σ (fun k k' : Fin 1024 => gt (y (ix3 b i k)) (y (ix3 b i k')) == 1#1) ⟨t.val, by omega⟩).val := by
    rintro σ _ rfl
    simp only [along_last]
    exact ⟨rfl, rfl⟩
  exact key sortedFrom (fun a => ⟨0 + ((ix3 b i t : S2x1024x30.Idx) (a.cast h.1.symm)).val,
      Nat.lt_of_lt_of_le (Nat.add_lt_add_left (Fin.isLt _) _) (h.2 a)⟩)
    (by funext a; fin_cases a <;> exact Fin.ext (Nat.zero_add _))

theorem ref_indices (hX : ∀ j a k, IsReal (refX x0 b j a k)) (hm : ∀ j, x1 (ix2 b j) = 1) (i : Fin 1024) (t : Fin 30) :
    val_main_indices (F := Ideal) x0 x1 (ix3 b i t) = BitVec.ofNat 32 (near (refX x0 b) i ⟨t.val, by omega⟩).val := by
  rw [← ref_order x0 x1 b hX hm i ⟨t.val, by omega⟩]
  exact (topK_apply b _ _ _ i t).2

theorem ref_values (hX : ∀ j a k, IsReal (refX x0 b j a k)) (hm : ∀ j, x1 (ix2 b j) = 1) (i : Fin 1024) (t : Fin 30) :
    val_main_v78 (F := Ideal) x0 x1 (ix3 b i t)
      = gap (refX x0 b) 1 1 i (near (refX x0 b) i ⟨t.val, by omega⟩) := by
  have h : val_main_values (F := Ideal) x0 x1 (ix3 b i t)
      = val_main_v77 (F := Ideal) x0 x1 (ix3 b i (near (refX x0 b) i ⟨t.val, by omega⟩)) := by
    rw [← ref_order x0 x1 b hX hm i ⟨t.val, by omega⟩]
    exact (topK_apply b _ _ _ i t).1
  show -val_main_values (F := Ideal) x0 x1 (ix3 b i t) = _
  rw [h, ref_v77 x0 x1 b hX hm, neg_neg]

end

/-! ## Gathers at the picks -/

/-- A pick, read as a signed number and clamped to the axis, is the residue. -/
theorem pick_clamped (r : Fin 1024) : min ((BitVec.ofNat 32 r.val).toInt.toNat) (1024 - 1) = r.val := by
  rw [toInt_ofNat_of_lt (by omega)]
  omega

/-- Below the axis nothing is wrapped. -/
theorem pick_unwrapped (r : Fin 1024) :
    (if IntOp.cmpi .slt (BitVec.ofNat 32 r.val) 0#32 = 1#1 then BitVec.ofNat 32 r.val + 1024#32 else BitVec.ofNat 32 r.val)
      = BitVec.ofNat 32 r.val := by
  have h : (BitVec.ofNat 32 r.val).slt 0#32 = false := by
    simp only [BitVec.slt, BitVec.toInt_zero, decide_eq_false_iff_not, Int.not_lt]
    rw [toInt_ofNat_of_lt (by omega)]
    omega
  show (if BitVec.ofBool ((BitVec.ofNat 32 r.val).slt 0#32) = 1#1 then _ else _) = _
  rw [h]
  rfl

theorem gather3_apply {α : Type} (x : S2x1024x1024.Idx → α) (idx : IVec S2x1024x30x1 32) (b : Fin 2) (i : Fin 1024) (t : Fin 30)
    (r : Fin 1024) (h : idx (ix4 b i t 0) = BitVec.ofNat 32 r.val) :
    Host.gather gather_S2x1024x1024_S2x1024x30x1_S2x1024x30_n_2_01_01_2_3_111 x idx (ix3 b i t) = x (ix3 b i r) := by
  unfold Host.gather
  congr 1
  funext a
  refine Fin.ext ?_
  show (gather_S2x1024x1024_S2x1024x30x1_S2x1024x30_n_2_01_01_2_3_111).start (ix3 b i t) idx a
    + (gather_S2x1024x1024_S2x1024x30x1_S2x1024x30_n_2_01_01_2_3_111).batchCoord (ix3 b i t) a
    + (gather_S2x1024x1024_S2x1024x30x1_S2x1024x30_n_2_01_01_2_3_111).offCoord (ix3 b i t) a = _
  have ha : a = (0 : Fin 3) ∨ a = (1 : Fin 3) ∨ a = (2 : Fin 3) := by
    fin_cases a <;> simp
  rcases ha with rfl | rfl | rfl
  · rw [GatherDims.start_batching _ _ _ _ (by show _ ∈ ([0, 1] : List (Fin 3)); simp),
      GatherDims.offCoord_eq_zero _ _ _ (fun h => ((GatherDims.mem_sKept _ _).mp h).2 (by show _ ∈ ([0, 1] : List (Fin 3)); simp))]
    unfold GatherDims.batchCoord
    rw [dif_pos (by show _ ∈ ([0, 1] : List (Fin 3)); simp)]
    exact Nat.zero_add _
  · rw [GatherDims.start_batching _ _ _ _ (by show _ ∈ ([0, 1] : List (Fin 3)); simp),
      GatherDims.offCoord_eq_zero _ _ _ (fun h => ((GatherDims.mem_sKept _ _).mp h).2 (by show _ ∈ ([0, 1] : List (Fin 3)); simp))]
    unfold GatherDims.batchCoord
    rw [dif_pos (by show _ ∈ ([0, 1] : List (Fin 3)); simp)]
    exact Nat.zero_add _
  · rw [GatherDims.batchCoord_eq_zero _ _ _ (by show _ ∉ ([0, 1] : List (Fin 3)); simp),
      GatherDims.offCoord_eq_zero _ _ _ (fun h => ((GatherDims.mem_sKept _ _).mp h).1 (by show _ ∈ ([2] : List (Fin 3)); simp))]
    unfold GatherDims.start
    rw [dif_pos (show (2 : Fin 3) ∈ (gather_S2x1024x1024_S2x1024x30x1_S2x1024x30_n_2_01_01_2_3_111).startIndexMap from List.mem_singleton.mpr rfl)]
    have hsi : ∀ c, (gather_S2x1024x1024_S2x1024x30x1_S2x1024x30_n_2_01_01_2_3_111).siIdx (ix3 b i t) c = ix4 b i t 0 := by
      intro c
      have hc : c.val < 1 := c.isLt
      funext e
      refine Fin.ext ?_
      match e with
      | ⟨0, _⟩ => rfl
      | ⟨1, _⟩ => rfl
      | ⟨2, _⟩ => rfl
      | ⟨3, _⟩ => show c.val = 0; omega
    rw [hsi, h]
    exact pick_clamped r

theorem gather4_apply {α : Type} (x : S2x1024x1024x24.Idx → α) (idx : IVec S2x1024x30x1 32) (b : Fin 2) (i : Fin 1024) (t : Fin 30)
    (p : Fin 24) (r : Fin 1024) (h : idx (ix4 b i t 0) = BitVec.ofNat 32 r.val) :
    Host.gather gather_S2x1024x1024x24_S2x1024x30x1_S2x1024x30x24_3_2_01_01_2_3_11124 x idx (ix4 b i t p) = x (ix4 b i r p) := by
  unfold Host.gather
  congr 1
  funext a
  refine Fin.ext ?_
  show (gather_S2x1024x1024x24_S2x1024x30x1_S2x1024x30x24_3_2_01_01_2_3_11124).start (ix4 b i t p) idx a
    + (gather_S2x1024x1024x24_S2x1024x30x1_S2x1024x30x24_3_2_01_01_2_3_11124).batchCoord (ix4 b i t p) a
    + (gather_S2x1024x1024x24_S2x1024x30x1_S2x1024x30x24_3_2_01_01_2_3_11124).offCoord (ix4 b i t p) a = _
  have ha : a = (0 : Fin 4) ∨ a = (1 : Fin 4) ∨ a = (2 : Fin 4) ∨ a = (3 : Fin 4) := by
    fin_cases a <;> simp
  rcases ha with rfl | rfl | rfl | rfl
  · rw [GatherDims.start_batching _ _ _ _ (by show _ ∈ ([0, 1] : List (Fin 4)); simp),
      GatherDims.offCoord_eq_zero _ _ _ (fun h => ((GatherDims.mem_sKept _ _).mp h).2 (by show _ ∈ ([0, 1] : List (Fin 4)); simp))]
    unfold GatherDims.batchCoord
    rw [dif_pos (by show _ ∈ ([0, 1] : List (Fin 4)); simp)]
    exact Nat.zero_add _
  · rw [GatherDims.start_batching _ _ _ _ (by show _ ∈ ([0, 1] : List (Fin 4)); simp),
      GatherDims.offCoord_eq_zero _ _ _ (fun h => ((GatherDims.mem_sKept _ _).mp h).2 (by show _ ∈ ([0, 1] : List (Fin 4)); simp))]
    unfold GatherDims.batchCoord
    rw [dif_pos (by show _ ∈ ([0, 1] : List (Fin 4)); simp)]
    exact Nat.zero_add _
  · rw [GatherDims.batchCoord_eq_zero _ _ _ (by show _ ∉ ([0, 1] : List (Fin 4)); simp),
      GatherDims.offCoord_eq_zero _ _ _ (fun h => ((GatherDims.mem_sKept _ _).mp h).1 (by show _ ∈ ([2] : List (Fin 4)); simp))]
    unfold GatherDims.start
    rw [dif_pos (show (2 : Fin 4) ∈ (gather_S2x1024x1024x24_S2x1024x30x1_S2x1024x30x24_3_2_01_01_2_3_11124).startIndexMap from List.mem_singleton.mpr rfl)]
    have hsi : ∀ c, (gather_S2x1024x1024x24_S2x1024x30x1_S2x1024x30x24_3_2_01_01_2_3_11124).siIdx (ix4 b i t p) c = ix4 b i t 0 := by
      intro c
      have hc : c.val < 1 := c.isLt
      funext e
      refine Fin.ext ?_
      match e with
      | ⟨0, _⟩ => rfl
      | ⟨1, _⟩ => rfl
      | ⟨2, _⟩ => rfl
      | ⟨3, _⟩ => show c.val = 0; omega
    rw [hsi, h]
    exact pick_clamped r
  · rw [GatherDims.batchCoord_eq_zero _ _ _ (by show _ ∉ ([0, 1] : List (Fin 4)); simp)]
    unfold GatherDims.start GatherDims.offCoord
    rw [dif_neg (show (3 : Fin 4) ∉ (gather_S2x1024x1024x24_S2x1024x30x1_S2x1024x30x24_3_2_01_01_2_3_11124).startIndexMap by show (3 : Fin 4) ∉ ([2] : List (Fin 4)); decide), dif_pos ((GatherDims.mem_sKept _ _).2
      ⟨(by show _ ∉ ([2] : List (Fin 4)); simp), (by show _ ∉ ([0, 1] : List (Fin 4)); simp)⟩)]
    exact Nat.zero_add _

end Cert.EdgeGraph
-- ==== Proof.RefFeatures.lean ====
module

public import proofs.«01_k».proof.Proof.RefRanking
public import Idealize.ShloMosaic.Lib.WordCmp

/-! The reference's distance features and its classes of relative position. -/

@[expose] public section

set_option maxRecDepth 16384

noncomputable section

namespace Cert.EdgeGraph

open Idealize.ShloMosaic Cert.ReferenceIdeal Cert.ReferenceIdeal.Read

section
variable (x0 : Vec Ideal S2x1024x4x3 .f32) (x1 : Vec Ideal S2x1024 .f32) (x2 : IVec S2x1024 32) (x3 : IVec S2x1024 32) (b : Fin 2)

/-- The neighbour in slot `t`. -/
abbrev refNear (i : Fin 1024) (t : Fin 30) : Fin 1024 := near (refX x0 b) i ⟨t.val, by omega⟩

section
variable (hX : ∀ j a k, IsReal (refX x0 b j a k)) (hm : ∀ j, x1 (ix2 b j) = 1) (i : Fin 1024) (t : Fin 30)
include hX hm

theorem ref_call0 : val_main_call0_v4 (F := Ideal) x0 x1 (ix4 b i t 0) = BitVec.ofNat 32 (refNear x0 b i t).val := by
  have h : val_main_v143 (F := Ideal) x0 x1 (ix4 b i t 0) = BitVec.ofNat 32 (refNear x0 b i t).val := by
    rw [← ref_indices x0 x1 b hX hm]
    pointwise [val_main_v143]
  show (if IntOp.cmpi .slt (val_main_v143 (F := Ideal) x0 x1 (ix4 b i t 0)) 0#32 = 1#1
    then val_main_v143 (F := Ideal) x0 x1 (ix4 b i t 0) + 1024#32 else val_main_v143 (F := Ideal) x0 x1 (ix4 b i t 0)) = _
  rw [h]
  exact pick_unwrapped _

theorem ref_call3 : val_main_call3_v5 (F := Ideal) x0 x1 (ix4 b i t 0) = BitVec.ofNat 32 (refNear x0 b i t).val := by
  have h := ref_indices x0 x1 b hX hm i t
  have h4 : val_main_call3_v5 (F := Ideal) x0 x1 (ix4 b i t 0) = val_main_call3_v4 (F := Ideal) x0 x1 (ix3 b i t) := by
    pointwise [val_main_call3_v5]
  rw [h4]
  show (if IntOp.cmpi .slt (val_main_indices (F := Ideal) x0 x1 (ix3 b i t)) 0#32 = 1#1
    then val_main_indices (F := Ideal) x0 x1 (ix3 b i t) + 1024#32 else val_main_indices (F := Ideal) x0 x1 (ix3 b i t)) = _
  rw [h]
  exact pick_unwrapped _

theorem ref_call4 : val_main_call4_v5 (F := Ideal) x0 x1 (ix4 b i t 0) = BitVec.ofNat 32 (refNear x0 b i t).val :=
  ref_call3 x0 x1 b hX hm i t

theorem ref_v144 (p : Fin 24) : val_main_v144 (F := Ideal) x0 x1 (ix4 b i t p)
    = gap (refX x0 b) (firstOf p.succ) (secondOf p.succ) i (refNear x0 b i t) := by
  rw [← ref_v142]
  exact gather4_apply _ _ b i t p _ (ref_call0 x0 x1 b hX hm i t)

theorem ref_v174 : val_main_v174 (F := Ideal) x0 x1 x2 (ix3 b i t) = x2 (ix2 b i) - x2 (ix2 b (refNear x0 b i t)) := by
  refine (gather3_apply _ _ b i t _ (ref_call3 x0 x1 b hX hm i t)).trans ?_
  pointwise [val_main_v173, val_main_v171, val_main_v172, val_main_v169, val_main_v170]
  rfl

theorem ref_v181 : val_main_v181 (F := Ideal) x0 x1 x3 (ix3 b i t)
    = if x3 (ix2 b i) = x3 (ix2 b (refNear x0 b i t)) then 1#32 else 0#32 := by
  have h : val_main_v180 (F := Ideal) x3 (ix3 b i (refNear x0 b i t))
      = (IntOp.cmpi .eq (x3 (ix2 b i)) (x3 (ix2 b (refNear x0 b i t)))).setWidth 32 := by
    pointwise [val_main_v180, val_main_v179, val_main_v177, val_main_v178, val_main_v175, val_main_v176]
  refine (gather3_apply _ _ b i t _ (ref_call4 x0 x1 b hX hm i t)).trans (h.trans ?_)
  show (BitVec.ofBool (x3 (ix2 b i) == x3 (ix2 b (refNear x0 b i t)))).setWidth 32 = _
  by_cases e : x3 (ix2 b i) = x3 (ix2 b (refNear x0 b i t))
  · rw [if_pos e, e]; simp
  · rw [if_neg e, beq_eq_false_iff_ne.2 e]; rfl

end

/-! ## The basis functions -/

theorem bits_two : Ideal.ofBits .f32 0x40000000#32 = ((2 : ℝ) : EReal) := by
  simp [Ideal.ofBits, Ideal.ieee]
  rw [← EReal.coe_mul]
  norm_num

theorem bits_top : Ideal.ofBits .f32 0x41B00000#32 = ((22 : ℝ) : EReal) := by
  simp [Ideal.ofBits, Ideal.ieee]
  rw [← EReal.coe_mul]
  norm_num

theorem bits_steps : Ideal.ofBits .f32 0x41700000#32 = ((15 : ℝ) : EReal) := by
  simp [Ideal.ofBits, Ideal.ieee]
  rw [← EReal.coe_mul]
  norm_num

theorem bits_one : Ideal.ofBits .f32 0x3F800000#32 = ((1 : ℝ) : EReal) := by
  simp [Ideal.ofBits, Ideal.ieee]
  rw [← EReal.coe_mul]
  norm_num

theorem ref_call1 (m : Fin 15) : val_main_call1_v15 (F := Ideal) (ix1 m) = ((2 + 4 / 3 * (m.val : ℝ) : ℝ) : EReal) := by
  have h4 : val_main_call1_v4 (F := Ideal) (ix1 m) = ((m.val : ℝ) : EReal) := by
    show (((BitVec.ofNat 32 m.val).toInt : ℝ) : EReal) = _
    rw [toInt_ofNat_of_lt (by omega)]
    norm_num
  have h6 : val_main_call1_v6 (F := Ideal) (ix1 m) = ((m.val / 15 : ℝ) : EReal) := by
    show Ideal.div (val_main_call1_v4 (F := Ideal) (ix1 m)) (Ideal.ofBits .f32 0x41700000#32) = _
    rw [h4, bits_steps, Ideal.div, if_neg (by norm_num), ← EReal.coe_inv, ← EReal.coe_mul]
    rfl
  have h : val_main_call1_v15 (F := Ideal) (ix1 m)
      = Ideal.ofBits .f32 0x40000000#32 * (Ideal.ofBits .f32 0x3F800000#32 - val_main_call1_v6 (F := Ideal) (ix1 m))
        + Ideal.ofBits .f32 0x41B00000#32 * val_main_call1_v6 (F := Ideal) (ix1 m) := by
    pointwise [val_main_call1_v15, val_main_call1_v11, val_main_call1_v14, val_main_call1_v10, val_main_call1_v9, val_main_call1_v13, val_main_call1_v12, val_main_call1_v7, val_main_call1_v8, val_main_call1_cst_1]
    rfl
  rw [h, h6, bits_two, bits_top, bits_one, ← EReal.coe_sub, ← EReal.coe_mul, ← EReal.coe_mul, ← EReal.coe_add]
  congr 1
  ring

theorem ref_centres (m : Fin 16) : val_main_v145 (F := Ideal) (ix1 m) = ((2 + 4 / 3 * (m.val : ℝ) : ℝ) : EReal) := by
  by_cases hm : m.val < 15
  · refine Eq.trans ?_ (ref_call1 ⟨m.val, hm⟩)
    have h : ∀ n : Fin 15, val_main_v145 (F := Ideal) (ix1 ⟨n.val, by omega⟩) = val_main_call1_v15 (F := Ideal) (ix1 n) := by
      intro n
      fin_cases n <;> pointwise [val_main_v145]
    exact h ⟨m.val, hm⟩
  · have e : m = 15 := by ext; show m.val = 15; omega
    subst e
    have h : val_main_v145 (F := Ideal) (ix1 15) = Ideal.ofBits .f32 0x41B00000#32 := by
      pointwise [val_main_v145]
      rfl
    rw [h, bits_top]
    congr 1
    norm_num

theorem ref_centres' (m : Fin 16) : val_main_v157 (F := Ideal) (ix1 m) = ((2 + 4 / 3 * (m.val : ℝ) : ℝ) : EReal) :=
  ref_centres m

section
variable (hX : ∀ j a k, IsReal (refX x0 b j a k)) (hm : ∀ j, x1 (ix2 b j) = 1) (i : Fin 1024) (t : Fin 30)
include hX hm

/-- The distance of the second atoms seen by a basis function. -/
theorem ref_v167 (m : Fin 16) : val_main_v167 (F := Ideal) x0 x1 (ix4 b i t m)
    = bump (gap (refX x0 b) 1 1 i (refNear x0 b i t)) m := by
  have h : val_main_v162 (F := Ideal) x0 x1 (ix4 b i t m)
      = gap (refX x0 b) 1 1 i (refNear x0 b i t) - ((2 + 4 / 3 * (m.val : ℝ) : ℝ) : EReal) := by
    rw [← ref_values x0 x1 b hX hm, ← ref_centres']
    pointwise [val_main_v162, val_main_v160, val_main_v158, val_main_v161, val_main_v159]
  show Ideal.exp (-(Ideal.div (val_main_v162 (F := Ideal) x0 x1 (ix4 b i t m)) (Ideal.ofBits .f32 0x3FA00000#32)
    * Ideal.div (val_main_v162 (F := Ideal) x0 x1 (ix4 b i t m)) (Ideal.ofBits .f32 0x3FA00000#32))) = _
  rw [h]
  rfl

/-- The distance of a stacked pair seen by a basis function. -/
theorem ref_v155 (p : Fin 24) (m : Fin 16) : val_main_v155 (F := Ideal) x0 x1 (ix5 b i t p m)
    = bump (gap (refX x0 b) (firstOf p.succ) (secondOf p.succ) i (refNear x0 b i t)) m := by
  have h : val_main_v150 (F := Ideal) x0 x1 (ix5 b i t p m)
      = gap (refX x0 b) (firstOf p.succ) (secondOf p.succ) i (refNear x0 b i t) - ((2 + 4 / 3 * (m.val : ℝ) : ℝ) : EReal) := by
    rw [← ref_v144 x0 x1 b hX hm, ← ref_centres]
    pointwise [val_main_v150, val_main_v148, val_main_v146, val_main_v149, val_main_v147]
  show Ideal.exp (-(Ideal.div (val_main_v150 (F := Ideal) x0 x1 (ix5 b i t p m)) (Ideal.ofBits .f32 0x3FA00000#32)
    * Ideal.div (val_main_v150 (F := Ideal) x0 x1 (ix5 b i t p m)) (Ideal.ofBits .f32 0x3FA00000#32))) = _
  rw [h]
  rfl

/-- The columns of the first sixteen distance features, and of the others. -/
abbrev headCol (m : Fin 16) : Fin 400 := ⟨m.val, by omega⟩

abbrev tailCol (p : Fin 24) (m : Fin 16) : Fin 400 := ⟨16 + (p.val * 16 + m.val), by omega⟩

/-- The four hundred distance features. -/
theorem ref_v168 (e : Fin 400) : val_main_v168 (F := Ideal) x0 x1 (ix4 b i t e)
    = EdgeGraph.radial (refX x0 b) i (refNear x0 b i t) e := by
  by_cases he : e.val < 16
  · obtain ⟨m, rfl⟩ : ∃ m : Fin 16, e = headCol m := ⟨⟨e.val, he⟩, rfl⟩
    have h : val_main_v168 (F := Ideal) x0 x1 (ix4 b i t (headCol m)) = val_main_v167 (F := Ideal) x0 x1 (ix4 b i t m) := by
      pointwise [val_main_v168]
    rw [h, ref_v167 x0 x1 b hX hm]
    unfold EdgeGraph.radial
    have e0 : (⟨m.val / 16, by omega⟩ : Fin 25) = 0 := by ext; show m.val / 16 = 0; omega
    have e1 : (⟨m.val % 16, by omega⟩ : Fin 16) = m := by ext; show m.val % 16 = m.val; omega
    simp only [e0, e1]
    rfl
  · obtain ⟨p, m, rfl⟩ : ∃ (p : Fin 24) (m : Fin 16), e = tailCol p m :=
      ⟨⟨(e.val - 16) / 16, by omega⟩, ⟨(e.val - 16) % 16, by omega⟩, Fin.ext (by
        show e.val = 16 + ((e.val - 16) / 16 * 16 + (e.val - 16) % 16); omega)⟩
    have h : val_main_v168 (F := Ideal) x0 x1 (ix4 b i t (tailCol p m))
        = val_main_v156 (F := Ideal) x0 x1 (ix4 b i t ⟨p.val * 16 + m.val, by omega⟩) := by
      pointwise [val_main_v168]
    have h' : val_main_v156 (F := Ideal) x0 x1 (ix4 b i t ⟨p.val * 16 + m.val, by omega⟩)
        = val_main_v155 (F := Ideal) x0 x1 (ix5 b i t p m) := by
      pointwise [val_main_v156]
    rw [h, h', ref_v155 x0 x1 b hX hm]
    unfold EdgeGraph.radial
    have e0 : (⟨(16 + (p.val * 16 + m.val)) / 16, by omega⟩ : Fin 25) = p.succ := by
      ext; show (16 + (p.val * 16 + m.val)) / 16 = p.val + 1; omega
    have e1 : (⟨(16 + (p.val * 16 + m.val)) % 16, by omega⟩ : Fin 16) = m := by
      ext; show (16 + (p.val * 16 + m.val)) % 16 = m.val; omega
    simp only [e0, e1]

end

end

end Cert.EdgeGraph
-- ==== Proof.RefTail.lean ====
module

public import proofs.«01_k».proof.Proof.RefFeatures

/-! The reference's positional features, its projection and the normalised rows. -/

@[expose] public section

set_option maxRecDepth 16384

noncomputable section

namespace Cert.EdgeGraph

open Idealize.ShloMosaic Cert.ReferenceIdeal Cert.ReferenceIdeal.Read

section
variable (x0 : Vec Ideal S2x1024x4x3 .f32) (x1 : Vec Ideal S2x1024 .f32) (x2 : IVec S2x1024 32) (x3 : IVec S2x1024 32)
  (x4 : Vec Ideal S16x66 .f32) (x5 : Vec Ideal S16 .f32) (x6 : Vec Ideal S128x416 .f32) (x7 : Vec Ideal S128 .f32)
  (x8 : Vec Ideal S128 .f32) (b : Fin 2)

/-- The chain labels of one batch. -/
abbrev refC : Fin 1024 → BitVec 32 := fun j => x3 (ix2 b j)

/-- The projection row of a residue's slot. -/
def refRow (i : Fin 1024) (t : Fin 30) : Fin 128 → EReal :=
  project (fun f e => x6 (ix2 f e))
    (positional (refC x3 b) (fun q p => x4 (ix2 q p)) (fun q => x5 (ix1 q)) i (refNear x0 b i t))
    (EdgeGraph.radial (refX x0 b) i (refNear x0 b i t))

variable (hX : ∀ j a k, IsReal (refX x0 b j a k)) (hm : ∀ j, x1 (ix2 b j) = 1)
  (hr : ∀ j : Fin 1024, x2 (ix2 b j) = x2 (ix2 b 0) + BitVec.ofNat 32 j.val) (i : Fin 1024) (t : Fin 30)
include hX hm hr

/-- The class of a neighbour's relative position. -/
theorem ref_v190 : val_main_v190 (F := Ideal) x0 x1 x2 x3 (ix3 b i t) = place (refC x3 b) i (refNear x0 b i t) := by
  have h : val_main_v190 (F := Ideal) x0 x1 x2 x3 (ix3 b i t)
      = IntOp.minsi 64#32 (IntOp.maxsi 0#32 (val_main_v174 (F := Ideal) x0 x1 x2 (ix3 b i t) + 32#32))
          * val_main_v181 (F := Ideal) x0 x1 x3 (ix3 b i t)
        + (1#32 - val_main_v181 (F := Ideal) x0 x1 x3 (ix3 b i t)) * 65#32 := rfl
  rw [h, ref_v174 x0 x1 x2 b hX hm, ref_v181 x0 x1 x3 b hX hm, hr i, hr (refNear x0 b i t)]
  have hs : x2 (ix2 b 0) + BitVec.ofNat 32 i.val - (x2 (ix2 b 0) + BitVec.ofNat 32 (refNear x0 b i t).val)
      = BitVec.ofNat 32 i.val - BitVec.ofNat 32 (refNear x0 b i t).val := by
    generalize BitVec.ofNat 32 i.val = p
    generalize BitVec.ofNat 32 (refNear x0 b i t).val = q
    generalize x2 (ix2 b 0) = r
    rw [BitVec.sub_eq_iff_eq_add, BitVec.add_comm r q, ← BitVec.add_assoc, BitVec.sub_add_cancel, BitVec.add_comm]
  rw [hs]
  unfold place
  split
  · rw [BitVec.sub_self, BitVec.zero_mul, BitVec.add_zero, BitVec.mul_one]
  · rw [BitVec.mul_zero, BitVec.zero_add, BitVec.sub_zero, BitVec.one_mul]

/-- The row that picks a class. -/
theorem ref_v191 (q : Fin 66) : val_main_v191 (F := Ideal) x0 x1 x2 x3 (ix4 b i t q)
    = if place (refC x3 b) i (refNear x0 b i t) = BitVec.ofNat 32 q.val then (1 : EReal) else 0 := by
  rw [← ref_v190 x0 x1 x2 x3 b hX hm hr]
  have h : val_main_call6_v4 (F := Ideal) x0 x1 x2 x3 (ix4 b i t q)
      = IntOp.cmpi .eq (val_main_v190 (F := Ideal) x0 x1 x2 x3 (ix3 b i t)) (BitVec.ofNat 32 q.val) := by
    pointwise [val_main_call6_v4, val_main_call6_v2, val_main_call6_v0, val_main_call6_v3, val_main_call6_v1]
  show ((BitVec.toNat (val_main_call6_v4 (F := Ideal) x0 x1 x2 x3 (ix4 b i t q)) : ℝ) : EReal) = _
  rw [h]
  show ((BitVec.toNat (BitVec.ofBool (val_main_v190 (F := Ideal) x0 x1 x2 x3 (ix3 b i t) == BitVec.ofNat 32 q.val)) : ℝ) : EReal) = _
  by_cases e : val_main_v190 (F := Ideal) x0 x1 x2 x3 (ix3 b i t) = BitVec.ofNat 32 q.val
  · rw [if_pos e, e]; simp
  · rw [if_neg e, beq_eq_false_iff_ne.2 e]; simp

/-- The positional features. -/
theorem ref_v196 (c : Fin 16) : val_main_v196 (F := Ideal) x0 x1 x2 x3 x4 x5 (ix4 b i t c)
    = positional (refC x3 b) (fun q p => x4 (ix2 q p)) (fun q => x5 (ix1 q)) i (refNear x0 b i t) c := by
  unfold positional
  simp only [← ref_v191 x0 x1 x2 x3 b hX hm hr]
  pointwise [val_main_v196, val_main_v193, val_main_v192, val_main_v195, val_main_v194]

/-- The projection. -/
theorem ref_v199 (f : Fin 128) : val_main_v199 (F := Ideal) x0 x1 x2 x3 x4 x5 x6 (ix4 b i t f)
    = refRow x0 x3 x4 x5 x6 b i t f := by
  have h : val_main_v199 (F := Ideal) x0 x1 x2 x3 x4 x5 x6 (ix4 b i t f)
      = ∑ e : Fin (16 + 400), val_main_v197 (F := Ideal) x0 x1 x2 x3 x4 x5 (ix4 b i t e) * x6 (ix2 f e) := by
    pointwise [val_main_v199, val_main_v198]
  rw [h, Fin.sum_univ_add]
  unfold refRow project
  congr 1
  · refine Finset.sum_congr rfl fun c _ => ?_
    have e : val_main_v197 (F := Ideal) x0 x1 x2 x3 x4 x5 (ix4 b i t (Fin.castAdd 400 c))
        = val_main_v196 (F := Ideal) x0 x1 x2 x3 x4 x5 (ix4 b i t c) := by
      pointwise [val_main_v197]
      rw [dif_pos (show (Fin.castAdd 400 c).val < 16 from c.isLt)]
      rfl
    rw [e, ref_v196 x0 x1 x2 x3 x4 x5 b hX hm hr]
    rfl
  · refine Finset.sum_congr rfl fun e' _ => ?_
    have e : val_main_v197 (F := Ideal) x0 x1 x2 x3 x4 x5 (ix4 b i t (Fin.natAdd 16 e'))
        = val_main_v168 (F := Ideal) x0 x1 (ix4 b i t e') := by
      pointwise [val_main_v197]
      rw [dif_neg (show ¬ (Fin.natAdd 16 e').val < 16 by show ¬ 16 + e'.val < 16; omega)]
      exact congrArg (fun z => val_main_v168 (F := Ideal) x0 x1 (ix4 b i t z)) (Fin.ext (Nat.add_sub_cancel_left 16 e'.val))
    rw [e, ref_v168 x0 x1 b hX hm]
    rfl

theorem ref_mean : val_main_v203 (F := Ideal) x0 x1 x2 x3 x4 x5 x6 (ix4 b i t 0) = mean (refRow x0 x3 x4 x5 x6 b i t) := by
  have h : val_main_v201 (F := Ideal) x0 x1 x2 x3 x4 x5 x6 (ix4 b i t 0) = ∑ f, refRow x0 x3 x4 x5 x6 b i t f := by
    simp only [← ref_v199 x0 x1 x2 x3 x4 x5 x6 b hX hm hr]
    pointwise [val_main_v201, val_main_v200, val_main_cst_18]
  show Ideal.div (val_main_v201 (F := Ideal) x0 x1 x2 x3 x4 x5 x6 (ix4 b i t 0)) (Ideal.ofBits .f32 0x43000000#32) = _
  rw [h]
  rfl

theorem ref_centred (f : Fin 128) : val_main_v205 (F := Ideal) x0 x1 x2 x3 x4 x5 x6 (ix4 b i t f)
    = refRow x0 x3 x4 x5 x6 b i t f - mean (refRow x0 x3 x4 x5 x6 b i t) := by
  rw [← ref_v199 x0 x1 x2 x3 x4 x5 x6 b hX hm hr, ← ref_mean x0 x1 x2 x3 x4 x5 x6 b hX hm hr]
  pointwise [val_main_v205, val_main_v204]

theorem ref_var : val_main_v210 (F := Ideal) x0 x1 x2 x3 x4 x5 x6 (ix4 b i t 0)
    = mean (fun f => (refRow x0 x3 x4 x5 x6 b i t f - mean (refRow x0 x3 x4 x5 x6 b i t))
        * (refRow x0 x3 x4 x5 x6 b i t f - mean (refRow x0 x3 x4 x5 x6 b i t))) := by
  have h : val_main_v208 (F := Ideal) x0 x1 x2 x3 x4 x5 x6 (ix4 b i t 0)
      = ∑ f, (refRow x0 x3 x4 x5 x6 b i t f - mean (refRow x0 x3 x4 x5 x6 b i t))
        * (refRow x0 x3 x4 x5 x6 b i t f - mean (refRow x0 x3 x4 x5 x6 b i t)) := by
    simp only [← ref_centred x0 x1 x2 x3 x4 x5 x6 b hX hm hr]
    pointwise [val_main_v208, val_main_v207, val_main_v206, val_main_cst_20]
  show Ideal.div (val_main_v208 (F := Ideal) x0 x1 x2 x3 x4 x5 x6 (ix4 b i t 0)) (Ideal.ofBits .f32 0x43000000#32) = _
  rw [h]
  rfl

/-- The reference's feature rows. -/
theorem ref_features (f : Fin 128) : val_main_v223 (F := Ideal) x0 x1 x2 x3 x4 x5 x6 x7 x8 (ix4 b i t f)
    = norm (refRow x0 x3 x4 x5 x6 b i t) (fun f => x7 (ix1 f)) (fun f => x8 (ix1 f)) f := by
  have h212 : val_main_v212 (F := Ideal) x0 x1 x2 x3 x4 x5 x6 (ix4 b i t f)
      = refRow x0 x3 x4 x5 x6 b i t f - mean (refRow x0 x3 x4 x5 x6 b i t) :=
    ref_centred x0 x1 x2 x3 x4 x5 x6 b hX hm hr i t f
  have h216 : val_main_v216 (F := Ideal) x0 x1 x2 x3 x4 x5 x6 (ix4 b i t f)
      = val_main_v215 (F := Ideal) x0 x1 x2 x3 x4 x5 x6 (ix4 b i t 0) := by
    pointwise [val_main_v216]
  have h215 : val_main_v215 (F := Ideal) x0 x1 x2 x3 x4 x5 x6 (ix4 b i t 0)
      = Ideal.sqrt (val_main_v210 (F := Ideal) x0 x1 x2 x3 x4 x5 x6 (ix4 b i t 0) + Ideal.ofBits .f32 0x3727C5AC#32) := rfl
  have h219 : val_main_v219 (F := Ideal) x7 (ix4 b i t f) = x7 (ix1 f) := by
    pointwise [val_main_v219, val_main_v218]
  have h222 : val_main_v222 (F := Ideal) x8 (ix4 b i t f) = x8 (ix1 f) := by
    pointwise [val_main_v222, val_main_v221]
  show Ideal.div (val_main_v212 (F := Ideal) x0 x1 x2 x3 x4 x5 x6 (ix4 b i t f))
      (val_main_v216 (F := Ideal) x0 x1 x2 x3 x4 x5 x6 (ix4 b i t f)) * val_main_v219 (F := Ideal) x7 (ix4 b i t f)
    + val_main_v222 (F := Ideal) x8 (ix4 b i t f) = _
  rw [h212, h216, h215, h219, h222, ref_var x0 x1 x2 x3 x4 x5 x6 b hX hm hr]
  rfl

end

end Cert.EdgeGraph
-- ==== Proof.Ranges.lean ====
module

public import proofs.«01_k».proof.Proof.Spec
public import proofs.«01_k».proof.Proof.Gen.Pre_setup_ranges
public import Idealize.ShloMosaic.Lib.StableHlo.Predicate

/-!
What the precondition says of the arrays, entry by entry: the coordinates are real numbers, the mask is one everywhere,
and the residues of a chain are numbered from the first one upwards.
-/

@[expose] public section

set_option maxRecDepth 16384

noncomputable section

namespace Cert.EdgeGraph

open Idealize.ShloMosaic Idealize.ShloMosaic.StableHlo Idealize.ShloMosaic.StableHlo.Predicate Cert.Pre_setup_ranges

section

variable (x0 : Vec Ideal S2x1024x4x3 .f32) (x1 : Vec Ideal S2x1024 .f32) (x2 x3 : IVec S2x1024 32)
  (x4 : Vec Ideal S16x66 .f32) (x5 : Vec Ideal S16 .f32) (x6 : Vec Ideal S128x416 .f32) (x7 x8 : Vec Ideal S128 .f32)

/-- A decided proposition whose bit is set holds. -/
theorem of_bit {p : Prop} [Decidable p] (h : BitVec.ofBool (decide p) = 1#1) : p := by
  by_contra hp
  rw [decide_eq_false hp] at h
  exact absurd h (by decide)

/-- Below infinity in absolute value means real. -/
theorem isReal_of_abs_lt {x : EReal} (h : max x (-x) < ⊤) : IsReal x := by
  rw [isReal_iff]
  constructor <;> rintro rfl <;> simp at h

/-- Where the precondition holds, the coordinates are real. -/
theorem real_of_ranges (h : (fn (F := Ideal) x0 x1 x2 x3 x4 x5 x6 x7 x8).1 = fun _ => 1#1)
    (b : Fin 2) (j : Fin 1024) (a : Fin 4) (k : Fin 3) : IsReal (x0 (ix4 b j a k)) := by
  have e := congrFun h (ix4 b j a k)
  unfold fn at e
  pointwise [] at e
  have ht : Ideal.ofBits .f32 0x7F800000#32 = ⊤ := by simp [Ideal.ofBits, Ideal.ieee]
  rw [ht] at e
  exact isReal_of_abs_lt (of_bit e)

/-- Where the precondition holds, no residue is masked. -/
theorem unmasked_of_ranges (h : (fn (F := Ideal) x0 x1 x2 x3 x4 x5 x6 x7 x8).2.1 = fun _ => 1#1)
    (b : Fin 2) (j : Fin 1024) : x1 (ix2 b j) = 1 := by
  have e := congrFun h (ix2 b j)
  unfold fn at e
  pointwise [] at e
  exact of_bit e

/-- Where the precondition holds, a chain's residues are numbered from its first one upwards. -/
theorem numbered_of_ranges (h : (fn (F := Ideal) x0 x1 x2 x3 x4 x5 x6 x7 x8).2.2 = fun _ => 1#1)
    (b : Fin 2) (j : Fin 1024) : x2 (ix2 b j) = x2 (ix2 b 0) + BitVec.ofNat 32 j.val := by
  have e := congrFun h (ix2 b j)
  unfold fn at e
  pointwise [] at e
  exact cmpi_eq_iff.mp e

end

end Cert.EdgeGraph
-- ==== Proof.lean ====
module

public import proofs.«01_k».proof.Defs
public import proofs.«01_k».proof.Proof.Arrays
public import proofs.«01_k».proof.Proof.RefTail
public import proofs.«01_k».proof.Proof.Ranges
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_setup_ranges
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem Cert.EdgeGraph

/-- The reference runs from any memory, keeps its arguments, and has no semaphore to leave raised. -/
theorem reference_frame : Cert.quiescent_ReferenceIdeal := fun m g _ =>
  (θ_run Cert.ReferenceIdeal.defs _ _).mono
    (fun r h => ⟨fun c => (h c).2.2, sem_eq_zero_of_no_sems (by decide) r.2⟩)
    (Cert.ReferenceIdeal.Value.run (F := Ideal) m g)

/-- Both programs run where the precondition holds, and their feature rows and picks agree entry by entry. -/
theorem agree : Cert.algebraic_KernelIdeal_ReferenceIdeal_pre_setup_ranges := by
  intro m g m' g' hpre hargs
  refine ⟨fun c => (Cert.KernelIdeal.Gen.dats m 0 c).arrAt 11 Cert.KernelIdeal.cfg0.N,
    fun c => (Cert.KernelIdeal.Gen.dats m 0 c).arrAt 12 Cert.KernelIdeal.cfg0.N,
    Cert.KernelIdeal.Value.run_blocks (F := Ideal) m g, ?_⟩
  refine (θ_run Cert.ReferenceIdeal.defs _ _).mono
    (fun r h c => ⟨(h c).1.trans ?_, (h c).2.1.trans ?_, (h c).2.2⟩)
    (Cert.ReferenceIdeal.Value.run (F := Ideal) m' g')
  all_goals
    obtain ⟨h0, h1, h2, h3, h4, h5, h6, h7, h8⟩ := hargs c
    change StableHlo.launchContents m' c (Proc.devRef .tc Cert.ReferenceIdeal.main_arg0) = _ at h0
    change StableHlo.launchContents m' c (Proc.devRef .tc Cert.ReferenceIdeal.main_arg1) = _ at h1
    change StableHlo.launchContents m' c (Proc.devRef .tc Cert.ReferenceIdeal.main_arg2) = _ at h2
    change StableHlo.launchContents m' c (Proc.devRef .tc Cert.ReferenceIdeal.main_arg3) = _ at h3
    change StableHlo.launchContents m' c (Proc.devRef .tc Cert.ReferenceIdeal.main_arg4) = _ at h4
    change StableHlo.launchContents m' c (Proc.devRef .tc Cert.ReferenceIdeal.main_arg5) = _ at h5
    change StableHlo.launchContents m' c (Proc.devRef .tc Cert.ReferenceIdeal.main_arg6) = _ at h6
    change StableHlo.launchContents m' c (Proc.devRef .tc Cert.ReferenceIdeal.main_arg7) = _ at h7
    change StableHlo.launchContents m' c (Proc.devRef .tc Cert.ReferenceIdeal.main_arg8) = _ at h8
    obtain ⟨p0, p1, p2⟩ := hpre c
    have hX := real_of_ranges _ _ _ _ _ _ _ _ _ p0
    have hm := unmasked_of_ranges _ _ _ _ _ _ _ _ _ p1
    have hr := numbered_of_ranges _ _ _ _ _ _ _ _ _ p2
  · refine (Cert.ReferenceIdeal.Read.val_main_v223_eq (F := Ideal) _).trans ?_
    rw [h0, h1, h2, h3, h4, h5, h6, h7, h8]
    refine funext fun (j : Cert.ReferenceIdeal.S2x1024x30x128.Idx) => ?_
    rw [eq_ix4 j]
    exact (ref_features _ _ _ _ _ _ _ _ _ (j 0) (hX (j 0)) (hm (j 0)) (hr (j 0)) (j 1) (j 2) (j 3)).trans
      (kernel_features m c hX (j 0) (j 1) (j 2) (j 3)).symm
  · refine (Cert.ReferenceIdeal.Read.val_main_indices_eq (F := Ideal) _).trans ?_
    rw [h0, h1]
    refine funext fun (j : Cert.ReferenceIdeal.S2x1024x30.Idx) => ?_
    rw [eq_ix3 j]
    exact (ref_indices _ _ (j 0) (hX (j 0)) (hm (j 0)) (j 1) (j 2)).trans (kernel_picks m c hX (j 0) (j 1) (j 2)).symm

theorem claim : Cert.Claim :=
  ⟨Cert.Kernel.Gen.facts, Cert.KernelIdeal.Gen.facts, Cert.ReferenceIdeal.Gen.facts, Cert.Pre_setup_ranges.Gen.facts,
    fun m g _ => Cert.Kernel.Gen.frame m g,
    fun m g _ => Cert.KernelIdeal.Gen.frame m g, fun m g _ => Cert.KernelIdeal.Gen.frame m g,
    reference_frame, fun m g _ => reference_frame m g trivial,
    ⟨IdealRules.named_const.statement Cert.KernelIdeal.κ "taken" .f32 0x7149F2CA#32 ⊤ rfl,
      IdealRules.named_const.statement Cert.KernelIdeal.κ "step" .f32 0x3FAAAAAB#32 ((4 / 3 : ℝ) : EReal) rfl⟩,
    agree⟩

end Cert.Proof

end
